-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_6)) (v5 : (c : Dev Cert.KernelIdeal.nD) → Buf (Elt Ideal) ((c.tc : Thread Cert.KernelIdeal.nD Cert.KernelIdeal.τ).loc Cert.KernelIdeal.main_v2_4)) (v6 : (c : Dev Cert.KernelIdeal.nD) → Buf (Elt Ideal) ((c.tc : Thread Cert.KernelIdeal.nD Cert.KernelIdeal.τ).loc Cert.KernelIdeal.main_v2_7)) (v7 : (c : Dev Cert.KernelIdeal.nD) → Buf (Elt Ideal) ((c.tc : Thread Cert.KernelIdeal.nD Cert.KernelIdeal.τ).loc Cert.KernelIdeal.main_v2_5)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_6) = v4 c
          ∧ r.2.mem ((c.tc : Thread Cert.KernelIdeal.nD Cert.KernelIdeal.τ).loc Cert.KernelIdeal.main_v2_4) = v5 c
          ∧ r.2.mem ((c.tc : Thread Cert.KernelIdeal.nD Cert.KernelIdeal.τ).loc Cert.KernelIdeal.main_v2_7) = v6 c
          ∧ r.2.mem ((c.tc : Thread Cert.KernelIdeal.nD Cert.KernelIdeal.τ).loc Cert.KernelIdeal.main_v2_5) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S6x1024x4096 : Shape := ⟨3, ![6, 1024, 4096]⟩
abbrev S4096x1024 : Shape := ⟨2, ![4096, 1024]⟩
abbrev S6x1024x1024 : Shape := ⟨3, ![6, 1024, 1024]⟩
abbrev S3x16 : Shape := ⟨2, ![3, 16]⟩
abbrev S1x16 : Shape := ⟨2, ![1, 16]⟩
abbrev S_ : Shape := ⟨0, ![]⟩

class Facts : Prop where
  slices_S3x16_S1x16_0_0 : S3x16.Slices ![0, 0] S1x16
  reducesTo_S1x16_S_d0_1 : S1x16.ReducesTo [0, 1] S_
  h_S_ : 0 < S_.numel
  slices_S3x16_S1x16_1_0 : S3x16.Slices ![1, 0] S1x16
  slices_S3x16_S1x16_2_0 : S3x16.Slices ![2, 0] S1x16

variable [Facts]

def fn_part1 {F : FTy → Type} [FloatOps F] (main_arg3 : FVec F S3x16 .f32) (main_v8 : IVec S_ 1) (main_v12 : FVec F S_ .f32) (main_v13 : IVec S_ 1) (main_v14 : IVec S_ 1) : IVec S_ 1 :=
  let main_cst_8 : FVec F S_ .f32 := constant S_ .f32 0x7E800000#32
  let main_v15 : IVec S_ 1 := cmpf .olt main_v12 main_cst_8
  let main_v16 : IVec S_ 1 := andi main_v14 main_v15
  let main_v17 : IVec S_ 1 := ori main_v13 main_v16
  let main_v18 : IVec S_ 1 := andi main_v8 main_v17
  let main_v19 : FVec F S1x16 .f32 := (extractStridedSlice S1x16 ![2, 0] · slices_S3x16_S1x16_2_0) main_arg3
  let main_cst_9 : FVec F S_ .f32 := constant S_ .f32 0xFF800000#32
  let main_v20 : FVec F S_ .f32 := (fun x v => Host.reduce FloatOps.maximumf x v reducesTo_S1x16_S_d0_1 h_S_) main_v19 main_cst_9
  let main_cst_10 : FVec F S_ .f32 := constant S_ .f32 0x37924925#32
  let main_v21 : FVec F S_ .f32 := mulf main_v20 main_cst_10
  let main_v22 : FVec F S_ .f32 := Host.absf main_v21
  let main_cst_11 : FVec F S_ .f32 := constant S_ .f32 0x00000000#32
  let main_v23 : IVec S_ 1 := cmpf .oeq main_v20 main_cst_11
  let main_cst_12 : FVec F S_ .f32 := constant S_ .f32 0x00800000#32
  let main_v24 : IVec S_ 1 := cmpf .oge main_v22 main_cst_12
  let main_cst_13 : FVec F S_ .f32 := constant S_ .f32 0x7E800000#32
  let main_v25 : IVec S_ 1 := cmpf .olt main_v22 main_cst_13
  let main_v26 : IVec S_ 1 := andi main_v24 main_v25
  let main_v27 : IVec S_ 1 := ori main_v23 main_v26
  let main_v28 : IVec S_ 1 := andi main_v18 main_v27
  main_v28

def fn {F : FTy → Type} [FloatOps F] (main_arg0 : FVec F S6x1024x4096 .bf16) (main_arg1 : FVec F S4096x1024 .bf16) (main_arg2 : FVec F S6x1024x1024 .bf16) (main_arg3 : FVec F S3x16 .f32) : IVec S_ 1 :=
  let main_v0 : FVec F S1x16 .f32 := (extractStridedSlice S1x16 ![0, 0] · slices_S3x16_S1x16_0_0) main_arg3
  let main_cst : FVec F S_ .f32 := constant S_ .f32 0xFF800000#32
  let main_v1 : FVec F S_ .f32 := (fun x v => Host.reduce FloatOps.maximumf x v reducesTo_S1x16_S_d0_1 h_S_) main_v0 main_cst
  let main_cst_0 : FVec F S_ .f32 := constant S_ .f32 0x3B124925#32
  let main_v2 : FVec F S_ .f32 := mulf main_v1 main_cst_0
  let main_v3 : FVec F S_ .f32 := Host.absf main_v2
  let main_cst_1 : FVec F S_ .f32 := constant S_ .f32 0x00000000#32
  let main_v4 : IVec S_ 1 := cmpf .oeq main_v1 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  let main_v9 : FVec F S1x16 .f32 := (extractStridedSlice S1x16 ![1, 0] · slices_S3x16_S1x16_1_0) main_arg3
  let main_cst_4 : FVec F S_ .f32 := constant S_ .f32 0xFF800000#32
  let main_v10 : FVec F S_ .f32 := (fun x v => Host.reduce FloatOps.maximumf x v reducesTo_S1x16_S_d0_1 h_S_) main_v9 main_cst_4
  let main_cst_5 : FVec F S_ .f32 := constant S_ .f32 0x3B124925#32
  let main_v11 : FVec F S_ .f32 := mulf main_v10 main_cst_5
  let main_v12 : FVec F S_ .f32 := Host.absf main_v11
  let main_cst_6 : FVec F S_ .f32 := constant S_ .f32 0x00000000#32
  let main_v13 : IVec S_ 1 := cmpf .oeq main_v10 main_cst_6
  let main_cst_7 : FVec F S_ .f32 := constant S_ .f32 0x00800000#32
  let main_v14 : IVec S_ 1 := cmpf .oge main_v12 main_cst_7
  fn_part1 (F := F) main_arg3 main_v8 main_v12 main_v13 main_v14
-- ==== Kernel.lean ====
abbrev S6x1024x4096 : Shape := ⟨3, ![6, 1024, 4096]⟩
abbrev S4096x1024 : Shape := ⟨2, ![4096, 1024]⟩
abbrev S6x1024x1024 : Shape := ⟨3, ![6, 1024, 1024]⟩
abbrev S3x16 : Shape := ⟨2, ![3, 16]⟩
abbrev S6144x4096 : Shape := ⟨2, ![6144, 4096]⟩
abbrev S6144x1024 : Shape := ⟨2, ![6144, 1024]⟩
abbrev S1x1 : Shape := ⟨2, ![1, 1]⟩
abbrev S256x4096 : Shape := ⟨2, ![256, 4096]⟩
abbrev S256x1024 : Shape := ⟨2, ![256, 1024]⟩
abbrev S16x4096 : Shape := ⟨2, ![16, 4096]⟩
abbrev S16x1024 : Shape := ⟨2, ![16, 1024]⟩
abbrev S1x1024 : Shape := ⟨2, ![1, 1024]⟩
abbrev S256x16x1024 : Shape := ⟨3, ![256, 16, 1024]⟩
abbrev S1x16x1024 : Shape := ⟨3, ![1, 16, 1024]⟩
abbrev S1 : Shape := ⟨1, ![1]⟩
abbrev S1x1x1 : Shape := ⟨3, ![1, 1, 1]⟩
abbrev S16x16x4096 : Shape := ⟨3, ![16, 16, 4096]⟩
abbrev S16x16x1024 : Shape := ⟨3, ![16, 16, 1024]⟩
abbrev S1x4096 : Shape := ⟨2, ![1, 4096]⟩
abbrev S1x16x4096 : Shape := ⟨3, ![1, 16, 4096]⟩

abbrev nBuf : Space → Nat
  | .hbm => 16
  | .vmem => 17
  | .smem => 5
  | _ => 0

abbrev bufTy : (tb : Table) → Fin (tcTables nBuf tb) → BufTy
  | .hbm, ⟨0, _⟩ => ⟨S6x1024x4096, .bf16⟩
  | .hbm, ⟨1, _⟩ => ⟨S4096x1024, .bf16⟩
  | .hbm, ⟨2, _⟩ => ⟨S6x1024x1024, .bf16⟩
  | .hbm, ⟨3, _⟩ => ⟨S3x16, .f32⟩
  | .hbm, ⟨4, _⟩ => ⟨S6144x4096, .bf16⟩
  | .hbm, ⟨5, _⟩ => ⟨S6144x1024, .bf16⟩
  | .hbm, ⟨6, _⟩ => ⟨S6144x1024, .bf16⟩
  | .hbm, ⟨7, _⟩ => ⟨S6144x4096, .bf16⟩
  | .hbm, ⟨8, _⟩ => ⟨S4096x1024, .f32⟩
  | .hbm, ⟨9, _⟩ => ⟨S6144x4096, .fp8e4m3⟩
  | .hbm, ⟨10, _⟩ => ⟨S4096x1024, .fp8e4m3⟩
  | .hbm, ⟨11, _⟩ => ⟨S6144x1024, .fp8e5m2⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S3x16, .f32⟩
  | .local _ .vmem, ⟨0, _⟩ => ⟨S4096x1024, .bf16⟩
  | .local _ .vmem, ⟨1, _⟩ => ⟨S256x4096, .bf16⟩
  | .local _ .vmem, ⟨2, _⟩ => ⟨S256x4096, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | .local _ .vmem, ⟨8, _⟩ => ⟨S256x4096, .bf16⟩
  | .local _ .vmem, ⟨9, _⟩ => ⟨S4096x1024, .f32⟩
  | .local _ .vmem, ⟨10, _⟩ => ⟨S256x4096, .fp8e4m3⟩
  | .local _ .vmem, ⟨11, _⟩ => ⟨S256x4096, .fp8e4m3⟩
  | .local _ .vmem, ⟨12, _⟩ => ⟨S4096x1024, .fp8e4m3⟩
  | .local _ .vmem, ⟨13, _⟩ => ⟨S256x1024, .fp8e5m2⟩
  | .local _ .vmem, ⟨14, _⟩ => ⟨S256x1024, .fp8e5m2⟩
  | .local _ .vmem, ⟨15, _⟩ => ⟨S16x4096, .bf16⟩
  | .local _ .vmem, ⟨16, _⟩ => ⟨S16x1024, .bf16⟩
  | .local _ .smem, ⟨0, _⟩ => ⟨S3x16, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S3x16, .f32⟩
  | _, _ => ⟨S6x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev main_v2_8 : Ref sig .tc := ⟨.hbm, 14, rfl⟩
abbrev main_v2_9 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg10_0 : Ref sig .tc := ⟨.smem, 1, rfl⟩
abbrev cc0_stg11_0 : Ref sig .tc := ⟨.smem, 2, rfl⟩
abbrev cc0_stg12_0 : Ref sig .tc := ⟨.smem, 3, rfl⟩
abbrev cc0_stg13_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32_132 : BitVec 32 := 0#32
  let v258 : BitVec 1 := Scalar.cmpi .eq arg0 c0_i32_132
  let v259 : BitVec 32 := Scalar.extui v258
  let c0_i32_133 : BitVec 32 := 0#32
  let v260 : BitVec 1 := Scalar.cmpi .ne v259 c0_i32_133
  v260

def k0_cond2 (i : grid0.Coords) : BitVec 1 :=
  let arg0 : BitVec 32 := BitVec.ofNat 32 (i 0).val
  let c23_i32_179 : BitVec 32 := 23#32
  let v336 : BitVec 1 := Scalar.cmpi .eq arg0 c23_i32_179
  let v337 : BitVec 32 := Scalar.extui v336
  let c0_i32_180 : BitVec 32 := 0#32
  let v338 : BitVec 1 := Scalar.cmpi .ne v337 c0_i32_180
  v338

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S3x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S6x1024x4096 : Shape := ⟨3, ![6, 1024, 4096]⟩
abbrev S4096x1024 : Shape := ⟨2, ![4096, 1024]⟩
abbrev S6x1024x1024 : Shape := ⟨3, ![6, 1024, 1024]⟩
abbrev S3x16 : Shape := ⟨2, ![3, 16]⟩
abbrev S6144x4096 : Shape := ⟨2, ![6144, 4096]⟩
abbrev S6144x1024 : Shape := ⟨2, ![6144, 1024]⟩
abbrev S1x1 : Shape := ⟨2, ![1, 1]⟩
abbrev S1x16 : Shape := ⟨2, ![1, 16]⟩
abbrev S1 : Shape := ⟨1, ![1]⟩
abbrev S1x256 : Shape := ⟨2, ![1, 256]⟩
abbrev S4096 : Shape := ⟨1, ![4096]⟩
abbrev S1x4096 : Shape := ⟨2, ![1, 4096]⟩
abbrev S1024 : Shape := ⟨1, ![1024]⟩
abbrev S1x1024 : Shape := ⟨2, ![1, 1024]⟩
abbrev S3x1 : Shape := ⟨2, ![3, 1]⟩
abbrev S3x15 : Shape := ⟨2, ![3, 15]⟩

abbrev nBuf : Space → Nat
  | .hbm => 16
  | .vmem => 14
  | .smem => 0
  | _ => 0

abbrev bufTy : (tb : Table) → Fin (tcTables nBuf tb) → BufTy
  | .hbm, ⟨0, _⟩ => ⟨S6x1024x4096, .bf16⟩
  | .hbm, ⟨1, _⟩ => ⟨S4096x1024, .bf16⟩
  | .hbm, ⟨2, _⟩ => ⟨S6x1024x1024, .bf16⟩
  | .hbm, ⟨3, _⟩ => ⟨S3x16, .f32⟩
  | .hbm, ⟨4, _⟩ => ⟨S6144x4096, .bf16⟩
  | .hbm, ⟨5, _⟩ => ⟨S6144x1024, .bf16⟩
  | .hbm, ⟨6, _⟩ => ⟨S6144x1024, .bf16⟩
  | .hbm, ⟨7, _⟩ => ⟨S6144x4096, .bf16⟩
  | .hbm, ⟨8, _⟩ => ⟨S4096x1024, .f32⟩
  | .hbm, ⟨9, _⟩ => ⟨S6144x4096, .fp8e4m3⟩
  | .hbm, ⟨10, _⟩ => ⟨S1x1, .f32⟩
  | .hbm, ⟨11, _⟩ => ⟨S4096x1024, .fp8e4m3⟩
  | .hbm, ⟨12, _⟩ => ⟨S1x1, .f32⟩
  | .hbm, ⟨13, _⟩ => ⟨S6144x1024, .fp8e5m2⟩
  | .hbm, ⟨14, _⟩ => ⟨S1x1, .f32⟩
  | .hbm, ⟨15, _⟩ => ⟨S3x16, .f32⟩
  | .local _ .vmem, ⟨0, _⟩ => ⟨S3x16, .f32⟩
  | .local _ .vmem, ⟨1, _⟩ => ⟨S4096x1024, .bf16⟩
  | .local _ .vmem, ⟨2, _⟩ => ⟨S6144x4096, .bf16⟩
  | .local _ .vmem, ⟨3, _⟩ => ⟨S6144x1024, .bf16⟩
  | .local _ .vmem, ⟨4, _⟩ => ⟨S6144x1024, .bf16⟩
  | .local _ .vmem, ⟨5, _⟩ => ⟨S6144x4096, .bf16⟩
  | .local _ .vmem, ⟨6, _⟩ => ⟨S4096x1024, .f32⟩
  | .local _ .vmem, ⟨7, _⟩ => ⟨S6144x4096, .fp8e4m3⟩
  | .local _ .vmem, ⟨8, _⟩ => ⟨S1x1, .f32⟩
  | .local _ .vmem, ⟨9, _⟩ => ⟨S4096x1024, .fp8e4m3⟩
  | .local _ .vmem, ⟨10, _⟩ => ⟨S1x1, .f32⟩
  | .local _ .vmem, ⟨11, _⟩ => ⟨S6144x1024, .fp8e5m2⟩
  | .local _ .vmem, ⟨12, _⟩ => ⟨S1x1, .f32⟩
  | .local _ .vmem, ⟨13, _⟩ => ⟨S3x16, .f32⟩
  | _, _ => ⟨S6x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev main_v2_8 : Ref sig .tc := ⟨.hbm, 14, rfl⟩
abbrev main_v2_9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x1024 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KI.Runs.lean ====
/- What the runs of the kernel's body are stated over: the two branch conditions in closed form over the grid
   points, each window's staging buffer at a point, the two scratch buffers, and what the launch hands the region. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 23#32)) 0#32) = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, e0]
    word_cmp
   : ∀ t : Fin grid0.N, cond0_1 (grid0.coords t) ↔ t.val % 24 = 23)

/-! ## The buffers the body is called on -/

/-- Each window's current staging memref at point `t`, spelled as the pipeline passes it (`bodyAt0`), and its wholeness. -/
abbrev ms0_0 (t : Fin cfg0.N) : Memref sig .tc .smem S3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x1024 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .fp8e5m2 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S3x16 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S16x4096 .bf16 := Memref.whole cc0_scratch0
abbrev scM0_1 : Memref sig .tc .vmem S16x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KI.RunB.lean ====
/- The body at a grid point that is neither the first nor the last. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long, and closing the definition walks it
set_option maxHeartbeats 4000000 in
/-- At a point that is neither the first nor the last.
    The body ends with every buffer it only reads as it was, and every other one with the listed
    pieces written into it (last store first). The lists are what the run of the body finds. -/
noncomputable def runB (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : ¬cond0_0 i) (hc1 : ¬cond0_1 i)
    (x1 : Vec F S3x16 .f32) (x2 : Vec F S4096x1024 .bf16) (x3 : Vec F S256x4096 .bf16) (x4 : Vec F S256x1024 .bf16) (x7 : Vec F S4096x1024 .f32) (x9 : Vec F S4096x1024 .fp8e4m3) (x11 : Vec F S1x1 .f32) (x12 : Vec F S1x1 .f32) (x13 : Vec F S1x1 .f32) (x14 : Vec F S3x16 .f32) (x15 : Vec F S16x4096 .bf16) (x16 : Vec F S16x1024 .bf16) :
    Σ' (L5 : List (View.Piece (Elt F) S256x1024 .bf16)), Σ' (L6 : List (View.Piece (Elt F) S256x4096 .bf16)), Σ' (L7 : List (View.Piece (Elt F) S4096x1024 .f32)), Σ' (L8 : List (View.Piece (Elt F) S256x4096 .fp8e4m3)), Σ' (L10 : List (View.Piece (Elt F) S256x1024 .fp8e5m2)), Σ' (L15 : List (View.Piece (Elt F) S16x4096 .bf16)), { L16 : List (View.Piece (Elt F) S16x1024 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare x7 ∗ (∃ d, owns (c : Thread nD τ) arg8 fullShare d) ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread x7) L7) ∗ (∃ f, arg8.view.loc (c : Thread nD τ) ↦[arg8.view.set]{fullShare} arg8.view.writes (Elt F) f L8) ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_fp8_linear_step_eq_skeleton]; unfold cc0_fp8_linear_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg7.eq_unread hf7; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexact H7
    isplitl [H8]
    · iexists _; iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexact H15
    iexact H16

end Cert.KernelIdeal.Gen

end
-- ==== Proof.KI.RunC.lean ====
/- The body at the last grid point. -/
module

public import proofs.«01_k».proof.Proof.KI.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long, and closing the definition walks it
set_option maxHeartbeats 4000000 in
/-- At the last point.
    The body ends with every buffer it only reads as it was, and every other one with the listed
    pieces written into it (last store first). The lists are what the run of the body finds. -/
noncomputable def runC (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : ¬cond0_0 i) (hc1 : cond0_1 i)
    (x1 : Vec F S3x16 .f32) (x2 : Vec F S4096x1024 .bf16) (x3 : Vec F S256x4096 .bf16) (x4 : Vec F S256x1024 .bf16) (x7 : Vec F S4096x1024 .f32) (x9 : Vec F S4096x1024 .fp8e4m3) (x11 : Vec F S1x1 .f32) (x12 : Vec F S1x1 .f32) (x13 : Vec F S1x1 .f32) (x14 : Vec F S3x16 .f32) (x15 : Vec F S16x4096 .bf16) (x16 : Vec F S16x1024 .bf16) :
    Σ' (L5 : List (View.Piece (Elt F) S256x1024 .bf16)), Σ' (L6 : List (View.Piece (Elt F) S256x4096 .bf16)), Σ' (L7 : List (View.Piece (Elt F) S4096x1024 .f32)), Σ' (L8 : List (View.Piece (Elt F) S256x4096 .fp8e4m3)), Σ' (L10 : List (View.Piece (Elt F) S256x1024 .fp8e5m2)), Σ' (L14 : List (View.Piece (Elt F) S3x16 .f32)), Σ' (L15 : List (View.Piece (Elt F) S16x4096 .bf16)), { L16 : List (View.Piece (Elt F) S16x1024 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare x7 ∗ (∃ d, owns (c : Thread nD τ) arg8 fullShare d) ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread x7) L7) ∗ (∃ f, arg8.view.loc (c : Thread nD τ) ↦[arg8.view.set]{fullShare} arg8.view.writes (Elt F) f L8) ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ owns (c : Thread nD τ) arg13 fullShare x13 ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_fp8_linear_step_eq_skeleton]; unfold cc0_fp8_linear_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg7.eq_unread hf7; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexact H7
    isplitl [H8]
    · iexists _; iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexact H14
    isplitl [H15]
    · iexact H15
    iexact H16

end Cert.KernelIdeal.Gen

end
-- ==== Proof.KI.RunA.lean ====
/- The body at the first grid point. -/
module

public import proofs.«01_k».proof.Proof.KI.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is long, and closing the definition walks it
set_option maxHeartbeats 4000000 in
/-- At the first point.
    The body ends with every buffer it only reads as it was, and every other one with the listed
    pieces written into it (last store first). The lists are what the run of the body finds. -/
noncomputable def runA (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : cond0_0 i) (hc1 : ¬cond0_1 i)
    (x1 : Vec F S3x16 .f32) (x2 : Vec F S4096x1024 .bf16) (x3 : Vec F S256x4096 .bf16) (x4 : Vec F S256x1024 .bf16) (x14 : Vec F S3x16 .f32) :
    Σ' (L5 : List (View.Piece (Elt F) S256x1024 .bf16)), Σ' (L6 : List (View.Piece (Elt F) S256x4096 .bf16)), Σ' (L7 : List (View.Piece (Elt F) S4096x1024 .f32)), Σ' (L8 : List (View.Piece (Elt F) S256x4096 .fp8e4m3)), Σ' (L9 : List (View.Piece (Elt F) S4096x1024 .fp8e4m3)), Σ' (L10 : List (View.Piece (Elt F) S256x1024 .fp8e5m2)), Σ' (L11 : List (View.Piece (Elt F) S1x1 .f32)), Σ' (L12 : List (View.Piece (Elt F) S1x1 .f32)), Σ' (L13 : List (View.Piece (Elt F) S1x1 .f32)), Σ' (L14 : List (View.Piece (Elt F) S3x16 .f32)), Σ' (L15 : List (View.Piece (Elt F) S16x4096 .bf16)), { L16 : List (View.Piece (Elt F) S16x1024 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread x14) L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, ?_, fun E K => ?run⟩
  case run =>
    simp only [cc0_fp8_linear_step_eq_skeleton]; unfold cc0_fp8_linear_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg14.eq_unread hf14
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexact H14
    isplitl [H15]
    · iexists _; iexact H15
    iexists _; iexact H16

end Cert.KernelIdeal.Gen

end
-- ==== Proof.KI.Scale.lean ====
/- The scale of one row of the history, the way the kernel's scalar code computes it. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scale of one history row, as the kernel computes it -/

/-- One step of the search for the exponent: the word with one more bit set, when its float is at most `|t|`. -/
def tryBit (t : F .f32) (b w : BitVec 32) : BitVec 32 :=
  Scalar.select (Scalar.cmpf .oge (Scalar.absf t) (Scalar.ofBits .f32 (Scalar.addi w b))) (Scalar.addi w b) w

/-- The exponent field of `t`: eight steps, the highest bit first. -/
def field (t : F .f32) : BitVec 32 :=
  Scalar.andi (Scalar.shrui (tryBit t 8388608#32 (tryBit t 16777216#32 (tryBit t 33554432#32 (tryBit t 67108864#32
    (tryBit t 134217728#32 (tryBit t 268435456#32 (tryBit t 536870912#32 (tryBit t 1073741824#32 0#32)))))))) 23#32) 255#32

/-- The scale's exponent from the field: nothing for zero and for what is not finite. -/
def exponent (w : BitVec 32) : BitVec 32 :=
  Scalar.select (Scalar.ori (Scalar.cmpi .eq w 0#32) (Scalar.cmpi .eq w 255#32)) 0#32 (Scalar.subi w 126#32)

/-- The power of two whose exponent is the word `e`. -/
def pow2 (e : BitVec 32) : F .f32 := Scalar.ofBits .f32 (Scalar.shli (Scalar.addi e 127#32) 23#32)

/-- The maximum of a row of sixteen, from the left. -/
def rowMax (r : Fin 16 → F .f32) : F .f32 :=
  Scalar.maximumf (Scalar.maximumf (Scalar.maximumf (Scalar.maximumf (Scalar.maximumf (Scalar.maximumf (Scalar.maximumf
    (Scalar.maximumf (Scalar.maximumf (Scalar.maximumf (Scalar.maximumf (Scalar.maximumf (Scalar.maximumf (Scalar.maximumf
    (Scalar.maximumf (r 0) (r 1)) (r 2)) (r 3)) (r 4)) (r 5)) (r 6)) (r 7)) (r 8)) (r 9)) (r 10)) (r 11)) (r 12)) (r 13)) (r 14)) (r 15)

/-- A row's exponent: of its maximum times the word `inv`, the reciprocal of the format's largest number. -/
def rowExp (inv : BitVec 32) (r : Fin 16 → F .f32) : BitVec 32 :=
  exponent (field (Scalar.mulf (rowMax r) (Scalar.ofBits .f32 inv)))

/-- A row's scale, -/
def rowScale (inv : BitVec 32) (r : Fin 16 → F .f32) : F .f32 := pow2 (rowExp inv r)

/-- and the scale's reciprocal. -/
def rowInv (inv : BitVec 32) (r : Fin 16 → F .f32) : F .f32 := pow2 (Scalar.subi 0#32 (rowExp inv r))

end Cert.KernelIdeal.Gen

end
-- ==== Proof.KI.Stores.lean ====
/- What stores through a whole buffer leave in it, and what loads from it read. -/
module

public import proofs.«01_k».proof.Proof.KI.Scale
public import Idealize.ShloMosaic.Lib.Pipeline.Value
public import Idealize.ShloMosaic.Lib.WholeRead
public import Idealize.ShloMosaic.Lib.ValueIdx

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {S : Shape} {e : EltTy} {sp : Space}

/-- A load of the whole buffer reads its contents. -/
theorem load_whole {m : Memref sig .tc sp S e} (hm : m.IsWhole) (X : S.Idx → Elt F e) {off : Fin S.rank → ℕ}
    (h : off = fun _ => 0) (inb : ∀ a, off a + S.size a ≤ S.size a) :
    View.readAt (Elt F) m.view (Rect.unit off S.size inb).toLoadRect (hm.unread X) = X := by
  rw [View.readAt_eq_ld, hm.read_unread]; exact View.ld_unit_zero h inb X

/-- A store of the whole buffer, the last one, leaves what it stored. -/
theorem owns_of_whole_store (c : Dev nD) (m : Memref sig .tc sp S e) {off : Fin S.rank → ℕ} (h : off = fun _ => 0)
    (inb : ∀ a, off a + S.size a ≤ S.size a) (w : S.Idx → Elt F e) (f : m.view.ty.Contents (Elt F))
    (L' : List (View.Piece (Elt F) S e)) (L : List (View.Piece (Elt F) S e)) (X : S.Idx → Elt F e)
    (hL : L = ⟨Rect.unit off S.size inb, w⟩ :: L') (hX : w = X) :
    (m.view.loc (c : Thread nD τ) ↦[m.view.set]{fullShare} m.view.writes (Elt F) f L : sProp 𝕄)
      ⊢ owns (c : Thread nD τ) m fullShare X := by
  subst hX hL
  iintro H
  unfold owns; iexists _; isplitr
  swap; · iexact H
  ipureintro
  rw [View.read_writes_eq_canon _ _ _ (fun y => ⟨_, List.mem_cons_self, View.mem_set_unit_zero h inb y⟩)]
  exact View.canon_cons_unit_zero h inb w L'

/-- Stores that all agree with one function `G` leave `G` at an index, when what they do not reach held `G` there before. -/
theorem read_writes_of_agree (v : View sig .tc sp S e) (f : v.ty.Contents (Elt F)) (G : S.Idx → Elt F e) (y : S.Idx) :
    ∀ L : List (View.Piece (Elt F) S e), (∀ p ∈ L, ∀ x, p.2 x = G (p.1.emb x)) →
      ((∀ p ∈ L, y ∉ p.1.set) → v.read (Elt F) f y = G y) → v.read (Elt F) (v.writes (Elt F) f L) y = G y
  | [], _, hf => hf (fun p hp => absurd hp List.not_mem_nil)
  | p :: L, hL, hf => by
    by_cases hy : y ∈ p.1.set
    · obtain ⟨r, w⟩ := p
      obtain ⟨x, rfl⟩ : ∃ x, r.emb x = y := r.exists_idx_of_mem hy
      rw [View.read_writes_cons_emb]
      exact hL _ List.mem_cons_self x
    · have hy' : y ∉ Finset.univ.map p.1.emb := by rwa [Rect.map_emb_univ]
      rw [View.writes_cons, View.read_slice_write_of_not_mem p.1 _ _ _ hy']
      refine read_writes_of_agree v f G y L (fun q hq => hL q (List.mem_cons_of_mem _ hq)) fun h => hf fun q hq => ?_
      rcases List.mem_cons.mp hq with rfl | hq
      · exact hy
      · exact h q hq

/-- The same as ownership of the buffer. -/
theorem owns_of_agree (c : Dev nD) (m : Memref sig .tc sp S e) (hm : m.IsWhole) (X G : S.Idx → Elt F e)
    (L : List (View.Piece (Elt F) S e)) (hL : ∀ p ∈ L, ∀ x, p.2 x = G (p.1.emb x))
    (hX : ∀ y, (∀ p ∈ L, y ∉ p.1.set) → X y = G y) :
    (m.view.loc (c : Thread nD τ) ↦[m.view.set]{fullShare} m.view.writes (Elt F) (hm.unread X) L : sProp 𝕄)
      ⊢ owns (c : Thread nD τ) m fullShare G := by
  iintro H
  unfold owns; iexists _; isplitr
  swap; · iexact H
  ipureintro
  exact funext fun y => read_writes_of_agree _ _ G y L hL fun h => by rw [hm.read_unread]; exact hX y h

/-! ## The words of the history -/

/-- The box of one word of a three by sixteen table. -/
abbrev wordBox (r : Fin 3) (k : Fin 16) : Rect S3x16 :=
  Rect.unit (s := S3x16) ![r.val, k.val] S1x1.size (by
    intro a; have hr := r.isLt; have hk := k.isLt
    match a with
    | ⟨0, _⟩ => exact hr
    | ⟨1, _⟩ => exact hk)

/-- Row `r` of a table of three rows of sixteen. -/
def histRow (h : Vec F S3x16 .f32) (r : Fin 3) : Fin 16 → F .f32 := fun k => h (ValueIdx.ix2 r k)

/-- The one index of a word's box is the word's. -/
theorem wordBox_emb (r : Fin 3) (k : Fin 16) (x : (wordBox r k).shape.Idx) : (wordBox r k).emb x = ValueIdx.ix2 r k := by
  funext a
  apply Fin.ext
  rw [Rect.emb_apply]
  have hx : (x a).val = 0 := by
    have := (x a).isLt
    match a, this with
    | ⟨0, _⟩, h => exact Nat.lt_one_iff.mp h
    | ⟨1, _⟩, h => exact Nat.lt_one_iff.mp h
  show ![r.val, k.val] a + 1 * (x a).val = _
  rw [hx]
  match a with
  | ⟨0, _⟩ => rfl
  | ⟨1, _⟩ => rfl

/-- Row `r` of a table as the scalar loads read it, word by word. -/
def readRow {m : Memref sig .tc .smem S3x16 .f32} (hm : m.IsWhole) (h : Vec F S3x16 .f32) (r : Fin 3) : Fin 16 → F .f32 :=
  fun k => View.readAt (Elt F) m.view (wordBox r k).toLoadRect (hm.unread h) (Shape.Idx.first (s := S1x1) (by decide))

theorem readRow_eq {m : Memref sig .tc .smem S3x16 .f32} (hm : m.IsWhole) (h : Vec F S3x16 .f32) (r : Fin 3) :
    readRow hm h r = histRow h r :=
  funext fun k => (hm.readAt_unread h _ _).trans (congrArg h (wordBox_emb r k _))

end Cert.KernelIdeal.Gen

end
-- ==== Proof.KI.Vals.lean ====
/- The values that one grid point of the kernel computes, as functions of the blocks it reads. -/
module

public import proofs.«01_k».proof.Proof.KI.Stores

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scales: row 0 of the history is that of x, row 1 that of the weights, row 2 that of dy -/

/-- The scale of x and its reciprocal, -/
def xsV (h : Vec F S3x16 .f32) : F .f32 := rowScale 0x3B124925#32 (histRow h 0)
def xinvV (h : Vec F S3x16 .f32) : F .f32 := rowInv 0x3B124925#32 (histRow h 0)

/-- of the weights, -/
def wsV (h : Vec F S3x16 .f32) : F .f32 := rowScale 0x3B124925#32 (histRow h 1)
def winvV (h : Vec F S3x16 .f32) : F .f32 := rowInv 0x3B124925#32 (histRow h 1)

/-- and of dy. -/
def dysV (h : Vec F S3x16 .f32) : F .f32 := rowScale 0x37924925#32 (histRow h 2)
def dyinvV (h : Vec F S3x16 .f32) : F .f32 := rowInv 0x37924925#32 (histRow h 2)

/-! ## The codes and the products -/

/-- The codes of a block of x, -/
def xcV (h : Vec F S3x16 .f32) (x : Vec F S256x4096 .bf16) : Vec F S256x4096 .fp8e4m3 := k0_pay68 (xinvV h) x

/-- of a block of dy, -/
def dycV (h : Vec F S3x16 .f32) (dy : Vec F S256x1024 .bf16) : Vec F S256x1024 .fp8e5m2 := k0_pay69 (dyinvV h) (k0_pay65 dy)

/-- and of the weights. -/
def wcV (h : Vec F S3x16 .f32) (w : Vec F S4096x1024 .bf16) : Vec F S4096x1024 .fp8e4m3 := k0_pay5 (winvV h) w

/-- A block of y, -/
def yV (h : Vec F S3x16 .f32) (x : Vec F S256x4096 .bf16) (wc : Vec F S4096x1024 .fp8e4m3) : Vec F S256x1024 .bf16 :=
  k0_pay71 (xsV h) (wsV h) (xcV h x) wc

/-- of dx, -/
def dxV (h : Vec F S3x16 .f32) (dy : Vec F S256x1024 .bf16) (wc : Vec F S4096x1024 .fp8e4m3) : Vec F S256x4096 .bf16 :=
  k0_pay1 (wsV h) (dysV h) (k0_pay72 (dycV h dy)) wc

/-- and what a point adds to the accumulator of dw. -/
def dwStep (h : Vec F S3x16 .f32) (x : Vec F S256x4096 .bf16) (dy : Vec F S256x1024 .bf16) (acc : Vec F S4096x1024 .f32) :
    Vec F S4096x1024 .f32 := k0_pay70 acc (xcV h x) (dycV h dy)

/-- The last point scales the accumulator. -/
def dwLast (h : Vec F S3x16 .f32) (acc : Vec F S4096x1024 .f32) : Vec F S4096x1024 .f32 := k0_pay2 (xsV h) (dysV h) acc

/-! ## The history's new table -/

/-- After the first point: the old table moved one place to the right, the maximum of the weights in row 1, and
    whatever was there in the two words that wait for the last point. -/
def histFirst (h : Vec F S3x16 .f32) (w : Vec F S4096x1024 .bf16) (d : Vec F S3x16 .f32) : Vec F S3x16 .f32 := fun y =>
  if (y 1).val = 0 then (if (y 0).val = 1 then k0_pay6 w else d y)
  else h (ValueIdx.ix2 (y 0) ⟨(y 1).val - 1, (Nat.sub_le _ _).trans_lt (y 1).isLt⟩)

/-- The last point fills in those two words. -/
def histLast (xm : Vec F S16x4096 .bf16) (dm : Vec F S16x1024 .bf16) (d : Vec F S3x16 .f32) : Vec F S3x16 .f32 := fun y =>
  if (y 1).val = 0 then (if (y 0).val = 0 then k0_pay3 xm else if (y 0).val = 2 then k0_pay4 dm else d y) else d y

/-- The words that the first point moves (each to the next column), in the order opposite to the program's. -/
def movedWords : List (Fin 3 × Fin 15) :=
  [ (2, 14), (2, 13), (2, 12), (2, 11), (2, 10), (2, 9), (2, 8), (2, 7), (2, 6), (2, 5), (2, 4), (2, 3), (2, 2), (2, 1), (2, 0),
    (1, 14), (1, 13), (1, 12), (1, 11), (1, 10), (1, 9), (1, 8), (1, 7), (1, 6), (1, 5), (1, 4), (1, 3), (1, 2), (1, 1), (1, 0),
    (0, 14), (0, 13), (0, 12), (0, 11), (0, 10), (0, 9), (0, 8), (0, 7), (0, 6), (0, 5), (0, 4), (0, 3), (0, 2), (0, 1), (0, 0) ]

theorem mem_movedWords : ∀ r k, (r, k) ∈ movedWords := by decide

/-- The stores of the first point into the history's new table. -/
def firstStores (row : Fin 3 → Fin 16 → F .f32) (wmax : F .f32) : List (View.Piece (Elt F) S3x16 .f32) :=
  movedWords.map (fun p => ⟨wordBox p.1 p.2.succ, fun _ => row p.1 p.2.castSucc⟩) ++ [⟨wordBox 1 0, fun _ => wmax⟩]

theorem mem_wordBox (r : Fin 3) (k : Fin 16) : ValueIdx.ix2 r k ∈ (wordBox r k).set := by
  rw [← Rect.map_emb_univ]
  exact Finset.mem_map.mpr ⟨Shape.Idx.first (s := S1x1) (by decide), Finset.mem_univ _, wordBox_emb r k _⟩

/-- A store of one word agrees with a function that has the word there. -/
theorem word_agrees {G : S3x16.Idx → F .f32} (r : Fin 3) (k : Fin 16) (v : F .f32) (h : v = G (ValueIdx.ix2 r k))
    (x : (wordBox r k).shape.Idx) : (⟨wordBox r k, fun _ => v⟩ : View.Piece (Elt F) S3x16 .f32).2 x = G ((wordBox r k).emb x) :=
  h.trans (congrArg G (wordBox_emb r k x).symm)

theorem firstStores_agree (h : Vec F S3x16 .f32) (w : Vec F S4096x1024 .bf16) (d : Vec F S3x16 .f32) :
    ∀ p ∈ firstStores (histRow h) (k0_pay6 w), ∀ x, p.2 x = histFirst h w d (p.1.emb x) := by
  intro p hp x
  rcases List.mem_append.mp hp with hp | hp
  · obtain ⟨⟨r, k⟩, -, rfl⟩ := List.mem_map.mp hp
    show histRow h r k.castSucc = histFirst h w d ((wordBox r k.succ).emb x)
    rw [wordBox_emb]
    rfl
  · obtain rfl := List.mem_singleton.mp hp
    exact word_agrees (G := histFirst h w d) 1 0 (k0_pay6 w) ((if_pos rfl).trans (if_pos rfl)).symm x

theorem firstStores_rest (h : Vec F S3x16 .f32) (w : Vec F S4096x1024 .bf16) (d : Vec F S3x16 .f32) (y : S3x16.Idx)
    (hy : ∀ p ∈ firstStores (histRow h) (k0_pay6 w), y ∉ p.1.set) : d y = histFirst h w d y := by
  obtain ⟨r, k, rfl⟩ : ∃ (r : Fin 3) (k : Fin 16), y = ValueIdx.ix2 r k := ⟨_, _, ValueIdx.eq_ix2 y⟩
  by_cases hk : k = 0
  · subst hk
    by_cases hr : r = 1
    · subst hr
      exact absurd (mem_wordBox 1 0) (hy _ (List.mem_append_right _ (List.mem_singleton.mpr rfl)))
    · have : ¬ r.val = 1 := fun e => hr (Fin.ext e)
      exact ((if_pos rfl).trans (if_neg this)).symm
  · obtain ⟨k', rfl⟩ := Fin.exists_succ_eq.mpr hk
    exact absurd (mem_wordBox r k'.succ) (hy _ (List.mem_append_left _ (List.mem_map.mpr ⟨(r, k'), mem_movedWords r k', rfl⟩)))

/-- The stores of the last point into the table. -/
def lastStores (a b : F .f32) : List (View.Piece (Elt F) S3x16 .f32) :=
  [⟨wordBox 2 0, fun _ => b⟩, ⟨wordBox 0 0, fun _ => a⟩]

theorem lastStores_agree (xm : Vec F S16x4096 .bf16) (dm : Vec F S16x1024 .bf16) (d : Vec F S3x16 .f32) :
    ∀ p ∈ lastStores (k0_pay3 xm) (k0_pay4 dm), ∀ x, p.2 x = histLast xm dm d (p.1.emb x) := by
  intro p hp x
  rcases List.mem_cons.mp hp with rfl | hp
  · exact word_agrees (G := histLast xm dm d) 2 0 (k0_pay4 dm) ((if_pos rfl).trans ((if_neg (by decide)).trans (if_pos rfl))).symm x
  · obtain rfl := List.mem_singleton.mp hp
    exact word_agrees (G := histLast xm dm d) 0 0 (k0_pay3 xm) ((if_pos rfl).trans (if_pos rfl)).symm x

theorem lastStores_rest (xm : Vec F S16x4096 .bf16) (dm : Vec F S16x1024 .bf16) (d : Vec F S3x16 .f32) (y : S3x16.Idx)
    (hy : ∀ p ∈ lastStores (k0_pay3 xm) (k0_pay4 dm), y ∉ p.1.set) : d y = histLast xm dm d y := by
  obtain ⟨r, k, rfl⟩ : ∃ (r : Fin 3) (k : Fin 16), y = ValueIdx.ix2 r k := ⟨_, _, ValueIdx.eq_ix2 y⟩
  by_cases hk : k = 0
  · subst hk
    have h0 : ¬ r.val = 0 := fun e => by
      obtain rfl : r = 0 := Fin.ext e
      exact hy _ (List.mem_cons_of_mem _ (List.mem_singleton.mpr rfl)) (mem_wordBox 0 0)
    have h2 : ¬ r.val = 2 := fun e => by
      obtain rfl : r = 2 := Fin.ext e
      exact hy _ List.mem_cons_self (mem_wordBox 2 0)
    exact ((if_pos rfl).trans ((if_neg h0).trans (if_neg h2))).symm
  · exact (if_neg fun e => hk (Fin.ext e)).symm

/-- The origin of a buffer of two axes. -/
theorem origin2 : (![0, 0] : Fin 2 → ℕ) = fun _ => 0 := by
  funext a; match a with
  | ⟨0, _⟩ => rfl
  | ⟨1, _⟩ => rfl

end Cert.KernelIdeal.Gen

end
-- ==== Proof.KI.BodyA.lean ====
/- What the first point leaves in its buffers. -/
module

public import proofs.«01_k».proof.Proof.KI.RunA
public import proofs.«01_k».proof.Proof.KI.Vals

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The names that the run gave to its values -/

theorem A_xs (c : Dev nD) {m : Memref sig .tc .smem S3x16 .f32} (hm : m.IsWhole) (h : Vec F S3x16 .f32) :
    runA.sl.r_27 c m hm h = xsV h := by rw [xsV, ← readRow_eq hm h 0]; rfl
theorem A_xinv (c : Dev nD) {m : Memref sig .tc .smem S3x16 .f32} (hm : m.IsWhole) (h : Vec F S3x16 .f32) :
    runA.sl.r_28 c m hm h = xinvV h := by rw [xinvV, ← readRow_eq hm h 0]; rfl
theorem A_ws (c : Dev nD) {m : Memref sig .tc .smem S3x16 .f32} (hm : m.IsWhole) (h : Vec F S3x16 .f32) :
    runA.sl.r_42 c m hm h = wsV h := by rw [wsV, ← readRow_eq hm h 1]; rfl
theorem A_winv (c : Dev nD) {m : Memref sig .tc .smem S3x16 .f32} (hm : m.IsWhole) (h : Vec F S3x16 .f32) :
    runA.sl.r_43 c m hm h = winvV h := by rw [winvV, ← readRow_eq hm h 1]; rfl
theorem A_dys (c : Dev nD) {m : Memref sig .tc .smem S3x16 .f32} (hm : m.IsWhole) (h : Vec F S3x16 .f32) :
    runA.sl.r_57 c m hm h = dysV h := by rw [dysV, ← readRow_eq hm h 2]; rfl
theorem A_dyinv (c : Dev nD) {m : Memref sig .tc .smem S3x16 .f32} (hm : m.IsWhole) (h : Vec F S3x16 .f32) :
    runA.sl.r_150 c m hm h = dyinvV h := by rw [dyinvV, ← readRow_eq hm h 2]; rfl

theorem A_xcode (c : Dev nD) {m : Memref sig .tc .smem S3x16 .f32} (hm : m.IsWhole) {mx : Memref sig .tc .vmem S256x4096 .bf16}
    (hx : mx.IsWhole) (h : Vec F S3x16 .f32) (x : Vec F S256x4096 .bf16) :
    k0_pay68 (runA.sl.r_28 c m hm h) (View.readAt (Elt F) mx.view (Rect.unit ![0, 0] S256x4096.size inb_S256x4096_S256x4096_0_0).toLoadRect
      (hx.unread x)) = xcV h x :=
  congrArg₂ k0_pay68 (A_xinv c hm h) (load_whole hx x origin2 _)
theorem A_dycode (c : Dev nD) {m : Memref sig .tc .smem S3x16 .f32} (hm : m.IsWhole) {md : Memref sig .tc .vmem S256x1024 .bf16}
    (hd : md.IsWhole) (h : Vec F S3x16 .f32) (dy : Vec F S256x1024 .bf16) :
    k0_pay69 (runA.sl.r_150 c m hm h) (runA.sl.r_151 c md hd dy) = dycV h dy :=
  congrArg₂ k0_pay69 (A_dyinv c hm h) (congrArg k0_pay65 (load_whole hd dy origin2 _))
theorem A_xread (c : Dev nD) {m : Memref sig .tc .smem S3x16 .f32} (hm : m.IsWhole) {mx : Memref sig .tc .vmem S256x4096 .bf16}
    (hx : mx.IsWhole) (mc : Memref sig .tc .vmem S256x4096 .fp8e4m3) (h : Vec F S3x16 .f32) (x : Vec F S256x4096 .bf16) :
    runA.sl.v307 c m hm mx hx mc h x = xcV h x := (View.readCov_cons_toLoadRect _ _ _ _).trans (A_xcode c hm hx h x)
theorem A_dyread (c : Dev nD) {m : Memref sig .tc .smem S3x16 .f32} (hm : m.IsWhole) {md : Memref sig .tc .vmem S256x1024 .bf16}
    (hd : md.IsWhole) (mc : Memref sig .tc .vmem S256x1024 .fp8e5m2) (h : Vec F S3x16 .f32) (dy : Vec F S256x1024 .bf16) :
    runA.sl.v310 c m hm md hd mc h dy = dycV h dy := (View.readCov_cons_toLoadRect _ _ _ _).trans (A_dycode c hm hd h dy)
theorem A_wcode (c : Dev nD) {m : Memref sig .tc .smem S3x16 .f32} (hm : m.IsWhole) {mw : Memref sig .tc .vmem S4096x1024 .bf16}
    (hw : mw.IsWhole) (h : Vec F S3x16 .f32) (w : Vec F S4096x1024 .bf16) :
    k0_pay5 (runA.sl.r_43 c m hm h) (View.readAt (Elt F) mw.view (Rect.unit ![0, 0] S4096x1024.size inb_S4096x1024_S4096x1024_0_0).toLoadRect
      (hw.unread w)) = wcV h w :=
  congrArg₂ k0_pay5 (A_winv c hm h) (load_whole hw w origin2 _)
theorem A_wread (c : Dev nD) {m : Memref sig .tc .smem S3x16 .f32} (hm : m.IsWhole) {mw : Memref sig .tc .vmem S4096x1024 .bf16}
    (hw : mw.IsWhole) (mc : Memref sig .tc .vmem S4096x1024 .fp8e4m3) (h : Vec F S3x16 .f32) (w : Vec F S4096x1024 .bf16) :
    runA.sl.v318 c m hm mw hw mc h w = wcV h w := (View.readCov_cons_toLoadRect _ _ _ _).trans (A_wcode c hm hw h w)
theorem A_wread' (c : Dev nD) {m : Memref sig .tc .smem S3x16 .f32} (hm : m.IsWhole) {mw : Memref sig .tc .vmem S4096x1024 .bf16}
    (hw : mw.IsWhole) (mc : Memref sig .tc .vmem S4096x1024 .fp8e4m3) (h : Vec F S3x16 .f32) (w : Vec F S4096x1024 .bf16) :
    runA.sl.v328 c m hm mw hw mc h w = wcV h w := (View.readCov_cons_toLoadRect _ _ _ _).trans (A_wcode c hm hw h w)

/-- The first point also leaves the weights' codes, the scales and most of the history's table. -/
theorem bodyA (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : cond0_0 i) (hc1 : ¬cond0_1 i)
    (x1 : Vec F S3x16 .f32) (x2 : Vec F S4096x1024 .bf16) (x3 : Vec F S256x4096 .bf16) (x4 : Vec F S256x1024 .bf16) (x14 : Vec F S3x16 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14 ∗ (∃ d, owns (c : Thread nD τ) arg15 fullShare d) ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yV x1 x3 (wcV x1 x2)) ∗ owns (c : Thread nD τ) arg6 fullShare (dxV x1 x4 (wcV x1 x2)) ∗ owns (c : Thread nD τ) arg7 fullShare (dwStep x1 x3 x4 k0_pay63) ∗ owns (c : Thread nD τ) arg8 fullShare (xcV x1 x3) ∗ owns (c : Thread nD τ) arg9 fullShare (wcV x1 x2) ∗ owns (c : Thread nD τ) arg10 fullShare (dycV x1 x4) ∗ owns (c : Thread nD τ) arg11 fullShare (fun _ => xsV x1) ∗ owns (c : Thread nD τ) arg12 fullShare (fun _ => wsV x1) ∗ owns (c : Thread nD τ) arg13 fullShare (fun _ => dysV x1) ∗ owns (c : Thread nD τ) arg14 fullShare (histFirst x1 x2 x14) ∗ owns (c : Thread nD τ) arg15 fullShare (k0_pay66 x3 k0_pay61) ∗ owns (c : Thread nD τ) arg16 fullShare (k0_pay67 x4 k0_pay62)) -∗ K ⟨⟩))
      ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e14 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x1 x2 x3 x4 x14).2.2.2.2.2.2.2.2.2.1 = firstStores (histRow x1) (k0_pay6 x2) :=
    (rfl : _ = firstStores (fun r k => readRow harg1 x1 r k) (k0_pay6 (View.readAt (Elt F) arg2.view (Rect.unit ![0, 0] S4096x1024.size inb_S4096x1024_S4096x1024_0_0).toLoadRect
      (harg2.unread x2)))).trans (congrArg₂ firstStores (funext fun r => readRow_eq harg1 x1 r) (congrArg k0_pay6 (load_whole harg2 x2 origin2 _)))
  iintro ⟨H1, H2, H3, H4, H5, H6, H7, H8, H9, H10, H11, H12, H13, H14, H15, H16, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x1 x2 x3 x4 x14).2.2.2.2.2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, H14, ⟨%f15, H15⟩, ⟨%f16, H16⟩⟩
  iapply Hk
  isplitl [H1]
  · iexact H1
  isplitl [H2]
  · iexact H2
  isplitl [H3]
  · iexact H3
  isplitl [H4]
  · iexact H4
  isplitl [H5]
  · iapply (owns_of_whole_store c arg5 origin2 _ _ _ _ _ _ rfl (congr (congr (congrArg₂ k0_pay71 (A_xs c harg1 x1) (A_ws c harg1 x1)) (A_xread c harg1 harg3 arg8 x1 x3)) (A_wread c harg1 harg2 arg9 x1 x2))); iexact H5
  isplitl [H6]
  · iapply (owns_of_whole_store c arg6 origin2 _ _ _ _ _ _ rfl (congr (congr (congrArg₂ k0_pay1 (A_ws c harg1 x1) (A_dys c harg1 x1)) (congrArg k0_pay72 (A_dyread c harg1 harg4 arg10 x1 x4))) (A_wread' c harg1 harg2 arg9 x1 x2))); iexact H6
  isplitl [H7]
  · iapply (owns_of_whole_store c arg7 origin2 _ _ _ _ _ _ rfl (congr (congrArg₂ k0_pay70 (show runA.sl.v305 (F := F) c arg7 = k0_pay63 from View.readCov_cons_toLoadRect _ _ _ _) (A_xread c harg1 harg3 arg8 x1 x3)) (A_dyread c harg1 harg4 arg10 x1 x4))); iexact H7
  isplitl [H8]
  · iapply (owns_of_whole_store c arg8 origin2 _ _ _ _ _ _ rfl (A_xcode c harg1 harg3 x1 x3)); iexact H8
  isplitl [H9]
  · iapply (owns_of_whole_store c arg9 origin2 _ _ _ _ _ _ rfl (A_wcode c harg1 harg2 x1 x2)); iexact H9
  isplitl [H10]
  · iapply (owns_of_whole_store c arg10 origin2 _ _ _ _ _ _ rfl (A_dycode c harg1 harg4 x1 x4)); iexact H10
  isplitl [H11]
  · iapply (owns_of_whole_store c arg11 origin2 _ _ _ _ _ _ rfl (funext fun _ => A_xs c harg1 x1)); iexact H11
  isplitl [H12]
  · iapply (owns_of_whole_store c arg12 origin2 _ _ _ _ _ _ rfl (funext fun _ => A_ws c harg1 x1)); iexact H12
  isplitl [H13]
  · iapply (owns_of_whole_store c arg13 origin2 _ _ _ _ _ _ rfl (funext fun _ => A_dys c harg1 x1)); iexact H13
  isplitl [H14]
  · rw [e14]; iapply (owns_of_agree c arg14 harg14 x14 _ _ (firstStores_agree x1 x2 x14) (firstStores_rest x1 x2 x14)); iexact H14
  isplitl [H15]
  · iapply (owns_of_whole_store c arg15 origin2 _ _ _ _ _ _ rfl (congrArg₂ k0_pay66 (load_whole harg3 x3 origin2 _) (show runA.sl.v265 (F := F) c arg15 = k0_pay61 from View.readCov_cons_toLoadRect _ _ _ _))); iexact H15
  iapply (owns_of_whole_store c arg16 origin2 _ _ _ _ _ _ rfl (congrArg₂ k0_pay67 (load_whole harg4 x4 origin2 _) (show runA.sl.v273 (F := F) c arg16 = k0_pay62 from View.readCov_cons_toLoadRect _ _ _ _))); iexact H16

end Cert.KernelIdeal.Gen

end
-- ==== Proof.KI.BodyB.lean ====
/- What a point that is neither first nor last leaves in its buffers. -/
module

public import proofs.«01_k».proof.Proof.KI.RunB
public import proofs.«01_k».proof.Proof.KI.Vals

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The names that the run gave to its values -/

theorem B_xs (c : Dev nD) {m : Memref sig .tc .smem S3x16 .f32} (hm : m.IsWhole) (h : Vec F S3x16 .f32) :
    runB.sl.r_27 c m hm h = xsV h := by rw [xsV, ← readRow_eq hm h 0]; rfl
theorem B_xinv (c : Dev nD) {m : Memref sig .tc .smem S3x16 .f32} (hm : m.IsWhole) (h : Vec F S3x16 .f32) :
    runB.sl.r_28 c m hm h = xinvV h := by rw [xinvV, ← readRow_eq hm h 0]; rfl
theorem B_ws (c : Dev nD) {m : Memref sig .tc .smem S3x16 .f32} (hm : m.IsWhole) (h : Vec F S3x16 .f32) :
    runB.sl.r_42 c m hm h = wsV h := by rw [wsV, ← readRow_eq hm h 1]; rfl
theorem B_dys (c : Dev nD) {m : Memref sig .tc .smem S3x16 .f32} (hm : m.IsWhole) (h : Vec F S3x16 .f32) :
    runB.sl.r_57 c m hm h = dysV h := by rw [dysV, ← readRow_eq hm h 2]; rfl
theorem B_dyinv (c : Dev nD) {m : Memref sig .tc .smem S3x16 .f32} (hm : m.IsWhole) (h : Vec F S3x16 .f32) :
    runB.sl.r_58 c m hm h = dyinvV h := by rw [dyinvV, ← readRow_eq hm h 2]; rfl

theorem B_xcode (c : Dev nD) {m : Memref sig .tc .smem S3x16 .f32} (hm : m.IsWhole) {mx : Memref sig .tc .vmem S256x4096 .bf16}
    (hx : mx.IsWhole) (h : Vec F S3x16 .f32) (x : Vec F S256x4096 .bf16) :
    k0_pay68 (runB.sl.r_28 c m hm h) (View.readAt (Elt F) mx.view (Rect.unit ![0, 0] S256x4096.size inb_S256x4096_S256x4096_0_0).toLoadRect
      (hx.unread x)) = xcV h x :=
  congrArg₂ k0_pay68 (B_xinv c hm h) (load_whole hx x origin2 _)
theorem B_dycode (c : Dev nD) {m : Memref sig .tc .smem S3x16 .f32} (hm : m.IsWhole) {md : Memref sig .tc .vmem S256x1024 .bf16}
    (hd : md.IsWhole) (h : Vec F S3x16 .f32) (dy : Vec F S256x1024 .bf16) :
    k0_pay69 (runB.sl.r_58 c m hm h) (runB.sl.r_59 c md hd dy) = dycV h dy :=
  congrArg₂ k0_pay69 (B_dyinv c hm h) (congrArg k0_pay65 (load_whole hd dy origin2 _))
theorem B_xread (c : Dev nD) {m : Memref sig .tc .smem S3x16 .f32} (hm : m.IsWhole) {mx : Memref sig .tc .vmem S256x4096 .bf16}
    (hx : mx.IsWhole) (mc : Memref sig .tc .vmem S256x4096 .fp8e4m3) (h : Vec F S3x16 .f32) (x : Vec F S256x4096 .bf16) :
    runB.sl.v307 c m hm mx hx mc h x = xcV h x := (View.readCov_cons_toLoadRect _ _ _ _).trans (B_xcode c hm hx h x)
theorem B_dyread (c : Dev nD) {m : Memref sig .tc .smem S3x16 .f32} (hm : m.IsWhole) {md : Memref sig .tc .vmem S256x1024 .bf16}
    (hd : md.IsWhole) (mc : Memref sig .tc .vmem S256x1024 .fp8e5m2) (h : Vec F S3x16 .f32) (dy : Vec F S256x1024 .bf16) :
    runB.sl.v310 c m hm md hd mc h dy = dycV h dy := (View.readCov_cons_toLoadRect _ _ _ _).trans (B_dycode c hm hd h dy)

/-- A point that is neither the first nor the last leaves the blocks' values. -/
theorem bodyB (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : ¬cond0_0 i) (hc1 : ¬cond0_1 i)
    (x1 : Vec F S3x16 .f32) (x2 : Vec F S4096x1024 .bf16) (x3 : Vec F S256x4096 .bf16) (x4 : Vec F S256x1024 .bf16) (x7 : Vec F S4096x1024 .f32) (x9 : Vec F S4096x1024 .fp8e4m3) (x11 : Vec F S1x1 .f32) (x12 : Vec F S1x1 .f32) (x13 : Vec F S1x1 .f32) (x14 : Vec F S3x16 .f32) (x15 : Vec F S16x4096 .bf16) (x16 : Vec F S16x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare x7 ∗ (∃ d, owns (c : Thread nD τ) arg8 fullShare d) ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yV x1 x3 x9) ∗ owns (c : Thread nD τ) arg6 fullShare (dxV x1 x4 x9) ∗ owns (c : Thread nD τ) arg7 fullShare (dwStep x1 x3 x4 x7) ∗ owns (c : Thread nD τ) arg8 fullShare (xcV x1 x3) ∗ owns (c : Thread nD τ) arg9 fullShare x9 ∗ owns (c : Thread nD τ) arg10 fullShare (dycV x1 x4) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (k0_pay66 x3 x15) ∗ owns (c : Thread nD τ) arg16 fullShare (k0_pay67 x4 x16)) -∗ K ⟨⟩))
      ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H1, H2, H3, H4, H5, H6, H7, H8, H9, H10, H11, H12, H13, H14, H15, H16, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x1 x2 x3 x4 x7 x9 x11 x12 x13 x14 x15 x16).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, ⟨%f5, H5⟩, ⟨%f6, H6⟩, H7, ⟨%f8, H8⟩, H9, ⟨%f10, H10⟩, H11, H12, H13, H14, H15, H16⟩
  iapply Hk
  isplitl [H1]
  · iexact H1
  isplitl [H2]
  · iexact H2
  isplitl [H3]
  · iexact H3
  isplitl [H4]
  · iexact H4
  isplitl [H5]
  · iapply (owns_of_whole_store c arg5 origin2 _ _ _ _ _ _ rfl (congr (congr (congrArg₂ k0_pay71 (B_xs c harg1 x1) (B_ws c harg1 x1)) (B_xread c harg1 harg3 arg8 x1 x3)) (load_whole harg9 x9 origin2 _))); iexact H5
  isplitl [H6]
  · iapply (owns_of_whole_store c arg6 origin2 _ _ _ _ _ _ rfl (congr (congr (congrArg₂ k0_pay1 (B_ws c harg1 x1) (B_dys c harg1 x1)) (congrArg k0_pay72 (B_dyread c harg1 harg4 arg10 x1 x4))) (load_whole harg9 x9 origin2 _))); iexact H6
  isplitl [H7]
  · iapply (owns_of_whole_store c arg7 origin2 _ _ _ _ _ _ rfl (congr (congrArg₂ k0_pay70 (load_whole harg7 x7 origin2 _) (B_xread c harg1 harg3 arg8 x1 x3)) (B_dyread c harg1 harg4 arg10 x1 x4))); iexact H7
  isplitl [H8]
  · iapply (owns_of_whole_store c arg8 origin2 _ _ _ _ _ _ rfl (B_xcode c harg1 harg3 x1 x3)); iexact H8
  isplitl [H9]
  · iexact H9
  isplitl [H10]
  · iapply (owns_of_whole_store c arg10 origin2 _ _ _ _ _ _ rfl (B_dycode c harg1 harg4 x1 x4)); iexact H10
  isplitl [H11]
  · iexact H11
  isplitl [H12]
  · iexact H12
  isplitl [H13]
  · iexact H13
  isplitl [H14]
  · iexact H14
  isplitl [H15]
  · iapply (owns_of_whole_store c arg15 origin2 _ _ _ _ _ _ rfl (congrArg₂ k0_pay66 (load_whole harg3 x3 origin2 _) (load_whole harg15 x15 origin2 _))); iexact H15
  iapply (owns_of_whole_store c arg16 origin2 _ _ _ _ _ _ rfl (congrArg₂ k0_pay67 (load_whole harg4 x4 origin2 _) (load_whole harg16 x16 origin2 _))); iexact H16

end Cert.KernelIdeal.Gen

end
-- ==== Proof.KI.BodyC.lean ====
/- What the last point leaves in its buffers. -/
module

public import proofs.«01_k».proof.Proof.KI.RunC
public import proofs.«01_k».proof.Proof.KI.Vals

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The names that the run gave to its values -/

theorem C_xs (c : Dev nD) {m : Memref sig .tc .smem S3x16 .f32} (hm : m.IsWhole) (h : Vec F S3x16 .f32) :
    runC.sl.r_27 c m hm h = xsV h := by rw [xsV, ← readRow_eq hm h 0]; rfl
theorem C_xinv (c : Dev nD) {m : Memref sig .tc .smem S3x16 .f32} (hm : m.IsWhole) (h : Vec F S3x16 .f32) :
    runC.sl.r_28 c m hm h = xinvV h := by rw [xinvV, ← readRow_eq hm h 0]; rfl
theorem C_ws (c : Dev nD) {m : Memref sig .tc .smem S3x16 .f32} (hm : m.IsWhole) (h : Vec F S3x16 .f32) :
    runC.sl.r_42 c m hm h = wsV h := by rw [wsV, ← readRow_eq hm h 1]; rfl
theorem C_dys (c : Dev nD) {m : Memref sig .tc .smem S3x16 .f32} (hm : m.IsWhole) (h : Vec F S3x16 .f32) :
    runC.sl.r_57 c m hm h = dysV h := by rw [dysV, ← readRow_eq hm h 2]; rfl
theorem C_dyinv (c : Dev nD) {m : Memref sig .tc .smem S3x16 .f32} (hm : m.IsWhole) (h : Vec F S3x16 .f32) :
    runC.sl.r_58 c m hm h = dyinvV h := by rw [dyinvV, ← readRow_eq hm h 2]; rfl

theorem C_xcode (c : Dev nD) {m : Memref sig .tc .smem S3x16 .f32} (hm : m.IsWhole) {mx : Memref sig .tc .vmem S256x4096 .bf16}
    (hx : mx.IsWhole) (h : Vec F S3x16 .f32) (x : Vec F S256x4096 .bf16) :
    k0_pay68 (runC.sl.r_28 c m hm h) (View.readAt (Elt F) mx.view (Rect.unit ![0, 0] S256x4096.size inb_S256x4096_S256x4096_0_0).toLoadRect
      (hx.unread x)) = xcV h x :=
  congrArg₂ k0_pay68 (C_xinv c hm h) (load_whole hx x origin2 _)
theorem C_dycode (c : Dev nD) {m : Memref sig .tc .smem S3x16 .f32} (hm : m.IsWhole) {md : Memref sig .tc .vmem S256x1024 .bf16}
    (hd : md.IsWhole) (h : Vec F S3x16 .f32) (dy : Vec F S256x1024 .bf16) :
    k0_pay69 (runC.sl.r_58 c m hm h) (runC.sl.r_59 c md hd dy) = dycV h dy :=
  congrArg₂ k0_pay69 (C_dyinv c hm h) (congrArg k0_pay65 (load_whole hd dy origin2 _))
theorem C_xread (c : Dev nD) {m : Memref sig .tc .smem S3x16 .f32} (hm : m.IsWhole) {mx : Memref sig .tc .vmem S256x4096 .bf16}
    (hx : mx.IsWhole) (mc : Memref sig .tc .vmem S256x4096 .fp8e4m3) (h : Vec F S3x16 .f32) (x : Vec F S256x4096 .bf16) :
    runC.sl.v307 c m hm mx hx mc h x = xcV h x := (View.readCov_cons_toLoadRect _ _ _ _).trans (C_xcode c hm hx h x)
theorem C_dyread (c : Dev nD) {m : Memref sig .tc .smem S3x16 .f32} (hm : m.IsWhole) {md : Memref sig .tc .vmem S256x1024 .bf16}
    (hd : md.IsWhole) (mc : Memref sig .tc .vmem S256x1024 .fp8e5m2) (h : Vec F S3x16 .f32) (dy : Vec F S256x1024 .bf16) :
    runC.sl.v310 c m hm md hd mc h dy = dycV h dy := (View.readCov_cons_toLoadRect _ _ _ _).trans (C_dycode c hm hd h dy)

/-- The last point also scales dw and completes the history's table. -/
theorem bodyC (c : Dev nD) (i : grid0.Coords) (arg1 : Memref sig .tc .smem S3x16 .f32) (harg1 : arg1.IsWhole) (arg2 : Memref sig .tc .vmem S4096x1024 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x4096 .bf16) (harg6 : arg6.IsWhole) (arg7 : Memref sig .tc .vmem S4096x1024 .f32) (harg7 : arg7.IsWhole) (arg8 : Memref sig .tc .vmem S256x4096 .fp8e4m3) (harg8 : arg8.IsWhole) (arg9 : Memref sig .tc .vmem S4096x1024 .fp8e4m3) (harg9 : arg9.IsWhole) (arg10 : Memref sig .tc .vmem S256x1024 .fp8e5m2) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .smem S3x16 .f32) (harg14 : arg14.IsWhole) (arg15 : Memref sig .tc .vmem S16x4096 .bf16) (harg15 : arg15.IsWhole) (arg16 : Memref sig .tc .vmem S16x1024 .bf16) (harg16 : arg16.IsWhole) (hc0 : ¬cond0_0 i) (hc1 : cond0_1 i)
    (x1 : Vec F S3x16 .f32) (x2 : Vec F S4096x1024 .bf16) (x3 : Vec F S256x4096 .bf16) (x4 : Vec F S256x1024 .bf16) (x7 : Vec F S4096x1024 .f32) (x9 : Vec F S4096x1024 .fp8e4m3) (x11 : Vec F S1x1 .f32) (x12 : Vec F S1x1 .f32) (x13 : Vec F S1x1 .f32) (x14 : Vec F S3x16 .f32) (x15 : Vec F S16x4096 .bf16) (x16 : Vec F S16x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare x7 ∗ (∃ d, owns (c : Thread nD τ) arg8 fullShare d) ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yV x1 x3 x9) ∗ owns (c : Thread nD τ) arg6 fullShare (dxV x1 x4 x9) ∗ owns (c : Thread nD τ) arg7 fullShare (dwLast x1 (dwStep x1 x3 x4 x7)) ∗ owns (c : Thread nD τ) arg8 fullShare (xcV x1 x3) ∗ owns (c : Thread nD τ) arg9 fullShare x9 ∗ owns (c : Thread nD τ) arg10 fullShare (dycV x1 x4) ∗ owns (c : Thread nD τ) arg11 fullShare x11 ∗ owns (c : Thread nD τ) arg12 fullShare x12 ∗ owns (c : Thread nD τ) arg13 fullShare x13 ∗ owns (c : Thread nD τ) arg14 fullShare (histLast (k0_pay66 x3 x15) (k0_pay67 x4 x16) x14) ∗ owns (c : Thread nD τ) arg15 fullShare (k0_pay66 x3 x15) ∗ owns (c : Thread nD τ) arg16 fullShare (k0_pay67 x4 x16)) -∗ K ⟨⟩))
      ⊢ wp frame (wpE (defs₀ (F := F)) Variants.none c none) E (cc0_fp8_linear_step i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e14 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x1 x2 x3 x4 x7 x9 x11 x12 x13 x14 x15 x16).2.2.2.2.2.1 = lastStores (k0_pay3 (k0_pay66 x3 x15)) (k0_pay4 (k0_pay67 x4 x16)) :=
    (rfl : _ = lastStores (k0_pay3 (runC.sl.v345 c arg3 harg3 arg15 harg15 x3 x15)) (k0_pay4 (runC.sl.v352 c arg4 harg4 arg16 harg16 x4 x16))).trans
      (congrArg₂ lastStores (congrArg k0_pay3 (show runC.sl.v345 c arg3 harg3 arg15 harg15 x3 x15 = k0_pay66 x3 x15 from (View.readCov_cons_toLoadRect _ _ _ _).trans (congrArg₂ k0_pay66 (load_whole harg3 x3 origin2 _) (load_whole harg15 x15 origin2 _)))) (congrArg k0_pay4 (show runC.sl.v352 c arg4 harg4 arg16 harg16 x4 x16 = k0_pay67 x4 x16 from (View.readCov_cons_toLoadRect _ _ _ _).trans (congrArg₂ k0_pay67 (load_whole harg4 x4 origin2 _) (load_whole harg16 x16 origin2 _)))))
  iintro ⟨H1, H2, H3, H4, H5, H6, H7, H8, H9, H10, H11, H12, H13, H14, H15, H16, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x1 x2 x3 x4 x7 x9 x11 x12 x13 x14 x15 x16).2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, ⟨%f5, H5⟩, ⟨%f6, H6⟩, H7, ⟨%f8, H8⟩, H9, ⟨%f10, H10⟩, H11, H12, H13, H14, H15, H16⟩
  iapply Hk
  isplitl [H1]
  · iexact H1
  isplitl [H2]
  · iexact H2
  isplitl [H3]
  · iexact H3
  isplitl [H4]
  · iexact H4
  isplitl [H5]
  · iapply (owns_of_whole_store c arg5 origin2 _ _ _ _ _ _ rfl (congr (congr (congrArg₂ k0_pay71 (C_xs c harg1 x1) (C_ws c harg1 x1)) (C_xread c harg1 harg3 arg8 x1 x3)) (load_whole harg9 x9 origin2 _))); iexact H5
  isplitl [H6]
  · iapply (owns_of_whole_store c arg6 origin2 _ _ _ _ _ _ rfl (congr (congr (congrArg₂ k0_pay1 (C_ws c harg1 x1) (C_dys c harg1 x1)) (congrArg k0_pay72 (C_dyread c harg1 harg4 arg10 x1 x4))) (load_whole harg9 x9 origin2 _))); iexact H6
  isplitl [H7]
  · iapply (owns_of_whole_store c arg7 origin2 _ _ _ _ _ _ rfl (congr (congrArg₂ k0_pay2 (C_xs c harg1 x1) (C_dys c harg1 x1)) (show runC.sl.v339 c arg1 harg1 arg3 harg3 arg4 harg4 arg7 harg7 arg8 arg10 x1 x3 x4 x7 = dwStep x1 x3 x4 x7 from (View.readCov_cons_toLoadRect _ _ _ _).trans (congr (congrArg₂ k0_pay70 (load_whole harg7 x7 origin2 _) (C_xread c harg1 harg3 arg8 x1 x3)) (C_dyread c harg1 harg4 arg10 x1 x4))))); iexact H7
  isplitl [H8]
  · iapply (owns_of_whole_store c arg8 origin2 _ _ _ _ _ _ rfl (C_xcode c harg1 harg3 x1 x3)); iexact H8
  isplitl [H9]
  · iexact H9
  isplitl [H10]
  · iapply (owns_of_whole_store c arg10 origin2 _ _ _ _ _ _ rfl (C_dycode c harg1 harg4 x1 x4)); iexact H10
  isplitl [H11]
  · iexact H11
  isplitl [H12]
  · iexact H12
  isplitl [H13]
  · iexact H13
  isplitl [H14]
  · rw [e14]; iapply (owns_of_agree c arg14 harg14 x14 _ _ (lastStores_agree _ _ x14) (lastStores_rest _ _ x14)); iexact H14
  isplitl [H15]
  · iapply (owns_of_whole_store c arg15 origin2 _ _ _ _ _ _ rfl (congrArg₂ k0_pay66 (load_whole harg3 x3 origin2 _) (load_whole harg15 x15 origin2 _))); iexact H15
  iapply (owns_of_whole_store c arg16 origin2 _ _ _ _ _ _ rfl (congrArg₂ k0_pay67 (load_whole harg4 x4 origin2 _) (load_whole harg16 x16 origin2 _))); iexact H16

end Cert.KernelIdeal.Gen

end
-- ==== Proof.KI.Data.lean ====
/- What the kernel's buffers hold at every grid point, and that the body does what that says. -/
module

public import proofs.«01_k».proof.Proof.KI.BodyA
public import proofs.«01_k».proof.Proof.KI.BodyB
public import proofs.«01_k».proof.Proof.KI.BodyC
public import Idealize.ShloMosaic.Lib.Pipeline.DatRel
public import Idealize.ShloMosaic.Lib.Pipeline.ArrRel

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents, point by point -/

/-- The first point. -/
abbrev t0 : Fin cfg0.N := ⟨0, lt_of_lt_of_eq (by decide : 0 < 24) (show cfg0.N = 24 from N_0).symm⟩

/-- The weights' codes, made at the first point. -/
def wcAt (c : Dev nD) : Vec F S4096x1024 .fp8e4m3 := wcV (iblk m c 0 t0) (iblk m c 1 t0)

/-- The accumulator of dw after point `n`, before the scaling. -/
def accAt (c : Dev nD) : (n : ℕ) → n < cfg0.N → Vec F S4096x1024 .f32
  | 0, h => dwStep (iblk m c 0 ⟨0, h⟩) (iblk m c 2 ⟨0, h⟩) (iblk m c 3 ⟨0, h⟩) k0_pay63
  | n + 1, h => dwStep (iblk m c 0 ⟨n + 1, h⟩) (iblk m c 2 ⟨n + 1, h⟩) (iblk m c 3 ⟨n + 1, h⟩) (accAt c n (by omega))

/-- The running maxima of x after point `n`, -/
def xmAt (c : Dev nD) : (n : ℕ) → n < cfg0.N → Vec F S16x4096 .bf16
  | 0, h => k0_pay66 (iblk m c 2 ⟨0, h⟩) k0_pay61
  | n + 1, h => k0_pay66 (iblk m c 2 ⟨n + 1, h⟩) (xmAt c n (by omega))

/-- and of dy. -/
def dmAt (c : Dev nD) : (n : ℕ) → n < cfg0.N → Vec F S16x1024 .bf16
  | 0, h => k0_pay67 (iblk m c 3 ⟨0, h⟩) k0_pay62
  | n + 1, h => k0_pay67 (iblk m c 3 ⟨n + 1, h⟩) (dmAt c n (by omega))

/-- The buffer of dw after point `t`: scaled at the last. -/
def dwAt (c : Dev nD) (t : Fin cfg0.N) : Vec F S4096x1024 .f32 :=
  if t.val % 24 = 23 then dwLast (iblk m c 0 t) (accAt m c t.val t.isLt) else accAt m c t.val t.isLt

/-- The history's new table after point `t`, when its buffer held `d` at first. -/
def histAt (c : Dev nD) (t : Fin cfg0.N) (d : Vec F S3x16 .f32) : Vec F S3x16 .f32 :=
  if t.val % 24 = 23 then
    histLast (xmAt m c t.val t.isLt) (dmAt m c t.val t.isLt) (histFirst (iblk m c 0 t0) (iblk m c 1 t0) d)
  else histFirst (iblk m c 0 t0) (iblk m c 1 t0) d

/-- The invariant before point `n`: the two scratch buffers at the running maxima. -/
def PhiS (c : Dev nD) : (n : ℕ) → n ≤ cfg0.N → sProp 𝕄
  | 0, _ => Pipeline.ΦA spec0 c
  | n + 1, hn => iprop(iprop(owns (c : Thread nD τ) scM0_0 fullShare (xmAt m c n hn) ∗ owns (c : Thread nD τ) scM0_1 fullShare (dmAt m c n hn)) ∗ (∃ r, prngReg c r))

theorem PhiS_succ (c : Dev nD) (n : ℕ) (hn : n < cfg0.N) :
    PhiS m c (n + 1) hn = iprop(iprop(owns (c : Thread nD τ) scM0_0 fullShare (xmAt m c n hn) ∗ owns (c : Thread nD τ) scM0_1 fullShare (dmAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (xmAt m c (n - 1) (by omega)) ∗ owns (c : Thread nD τ) scM0_1 fullShare (dmAt m c (n - 1) (by omega))) ∗ (∃ r, prngReg c r)) := by
  cases n with
  | zero => exact absurd rfl hz
  | succ n => rfl

/-- The proof data. Of the windows that some points leave alone `marked` and `RelT` say the rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yV (iblk m c 0 t) (iblk m c 2 t) (wcAt m c)
    | ⟨5, _⟩ => dxV (iblk m c 0 t) (iblk m c 3 t) (wcAt m c)
    | ⟨6, _⟩ => dwAt m c t
    | ⟨7, _⟩ => xcV (iblk m c 0 t) (iblk m c 2 t)
    | ⟨8, _⟩ => wcAt m c
    | ⟨9, _⟩ => dycV (iblk m c 0 t) (iblk m c 3 t)
    | ⟨10, _⟩ => fun _ => xsV (iblk m c 0 t0)
    | ⟨11, _⟩ => fun _ => wsV (iblk m c 0 t0)
    | ⟨12, _⟩ => fun _ => dysV (iblk m c 0 t0)
    | ⟨13, _⟩ => iblk m c 0 t
  Φ t := PhiS m c t.val (Nat.le_of_lt_succ t.isLt)
  q _ := fullShare
  owed _ := 0

/-- The windows that some points leave alone: the weights' codes, the scales, the history's table, -/
def marked : Fin cfg0.W → Bool := fun w => match w with
  | ⟨8, _⟩ => true
  | ⟨10, _⟩ => true
  | ⟨11, _⟩ => true
  | ⟨12, _⟩ => true
  | ⟨13, _⟩ => true
  | _ => false

/-- and what holds of them. -/
def RelT (c : Dev nD) : (w : Fin cfg0.W) → Fin cfg0.N → ((cfg0.win w).block.Idx → Elt F (cfg0.win w).elt) → Prop := fun w => match w with
  | ⟨8, _⟩ => fun _ X => X = wcAt m c
  | ⟨10, _⟩ => fun _ X => X = fun _ => xsV (iblk m c 0 t0)
  | ⟨11, _⟩ => fun _ X => X = fun _ => wsV (iblk m c 0 t0)
  | ⟨12, _⟩ => fun _ X => X = fun _ => dysV (iblk m c 0 t0)
  | ⟨13, _⟩ => fun t X => ∃ d, X = histAt m c t d
  | _ => fun _ _ => True

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What a point finds and leaves -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yV (iblk m c 0 t) (iblk m c 2 t) (wcAt m c) := by dsimp only [dats]
theorem after0_5 (c : Dev nD) (t : Fin cfg0.N) : (dats m 0 c).after 5 t = dxV (iblk m c 0 t) (iblk m c 3 t) (wcAt m c) := by dsimp only [dats]
theorem after0_6 (c : Dev nD) (t : Fin cfg0.N) : (dats m 0 c).after 6 t = dwAt m c t := by dsimp only [dats]
theorem after0_7 (c : Dev nD) (t : Fin cfg0.N) : (dats m 0 c).after 7 t = xcV (iblk m c 0 t) (iblk m c 2 t) := by dsimp only [dats]
theorem after0_9 (c : Dev nD) (t : Fin cfg0.N) : (dats m 0 c).after 9 t = dycV (iblk m c 0 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem kept0_6 (c : Dev nD) (n : ℕ) (hn : n + 1 < cfg0.N) (d) :
    (dats m 0 c).before 6 ⟨n + 1, hn⟩ d = (dats m 0 c).after 6 ⟨n, by omega⟩ := by
  have hN : n + 1 < 24 := lt_of_lt_of_eq hn (show cfg0.N = 24 from N_0)
  rw [Dat.before_out_kept _ 6 rfl ⟨n + 1, hn⟩ (by dsimp only; omega) (Bool.eq_false_iff.mpr fun h => by have := (flush0_6 _).mp h; dsimp only at this; omega)
    (fun _ => rfl) (fun _ _ => rfl)]
  rfl

/-- A marked buffer that the point before did not write back holds what that point may have left. -/
theorem finds_marked (c : Dev nD) (w : Fin cfg0.W) (n : ℕ) (hn : n + 1 < cfg0.N) (hm : marked w = true)
    (hfetch : (cfg0.win w).fetch ⟨n + 1, hn⟩ = false) (hflush : (cfg0.win w).flush ⟨n, Nat.lt_of_succ_lt hn⟩ = false) (X)
    (h : ((dats m 0 c).toRRel marked (RelT m c)).Finds w ⟨n + 1, hn⟩ X) : RelT m c w ⟨n, by omega⟩ X := by
  rw [Pipeline.RDat.finds_of_pos _ hfetch (by dsimp only; omega)] at h
  rcases h with h | h
  · exact absurd h (Bool.eq_false_iff.mp hflush)
  · exact (dats m 0 c).toRRel_leaves hm h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel marked (RelT m c)).Finds 8 t Y⌝ ∗ owns (c : Thread nD τ) (ms0_8 t) fullShare Y)
    ∗ (∃ d, owns (c : Thread nD τ) (ms0_9 t) fullShare ((dats m 0 c).before 9 t d))
    ∗ (∃ Y, ⌜((dats m 0 c).toRRel marked (RelT m c)).Finds 10 t Y⌝ ∗ owns (c : Thread nD τ) (ms0_10 t) fullShare Y)
    ∗ (∃ Y, ⌜((dats m 0 c).toRRel marked (RelT m c)).Finds 11 t Y⌝ ∗ owns (c : Thread nD τ) (ms0_11 t) fullShare Y)
    ∗ (∃ Y, ⌜((dats m 0 c).toRRel marked (RelT m c)).Finds 12 t Y⌝ ∗ owns (c : Thread nD τ) (ms0_12 t) fullShare Y)
    ∗ (∃ Y, ⌜((dats m 0 c).toRRel marked (RelT m c)).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜X = wcAt m c⌝ ∗ owns (c : Thread nD τ) (ms0_8 t) fullShare X)
    ∗ owns (c : Thread nD τ) (ms0_9 t) fullShare ((dats m 0 c).after 9 t)
    ∗ (∃ X, ⌜X = fun _ => xsV (iblk m c 0 t0)⌝ ∗ owns (c : Thread nD τ) (ms0_10 t) fullShare X)
    ∗ (∃ X, ⌜X = fun _ => wsV (iblk m c 0 t0)⌝ ∗ owns (c : Thread nD τ) (ms0_11 t) fullShare X)
    ∗ (∃ X, ⌜X = fun _ => dysV (iblk m c 0 t0)⌝ ∗ owns (c : Thread nD τ) (ms0_12 t) fullShare X)
    ∗ (∃ X, ⌜∃ d, X = histAt m c t d⌝ ∗ owns (c : Thread nD τ) (ms0_13 t) fullShare X))

theorem sound_first (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  unfold bodyPre bodyPost bodyAt0
  simp only [before0_0, before0_1, before0_2, before0_3]
  rw [show (dats m 0 c).owesAt () (Fin.succ ⟨0, h⟩) = (dats m 0 c).owesAt () (Fin.castSucc ⟨0, h⟩) from rfl,
    after0_0, after0_1, after0_2, after0_3, after0_4, after0_5, after0_6, after0_7, after0_9]
  rw [show (dats m 0 c).Φ (Fin.succ ⟨0, h⟩) = PhiS m c (0 + 1) h from rfl, PhiS_succ, PhiS_castSucc,
    show PhiS m c 0 (Nat.le_of_lt h) = Pipeline.ΦA spec0 c from rfl, PhiA0_eq]
  rw [show dwAt m c ⟨0, h⟩ = accAt m c 0 h from if_neg (by dsimp only; omega)]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%Y10, %hY10, H10⟩, ⟨%Y11, %hY11, H11⟩, ⟨%Y12, %hY12, H12⟩, ⟨%Y, %hY, H13⟩⟩
  iapply (bodyA c (grid0.coords ⟨0, h⟩) _ _ _ _ _ _ _ _ _ _ _ _ _ _ _ _ _ _ _ _ _ _ _ _ _ _ _ _ _ _ _ _ ((hcond0_0 ⟨0, h⟩).mpr rfl) (fun h => absurd ((hcond0_1 _).mp h) (by dsimp only; omega)) (iblk m c 0 ⟨0, h⟩) (iblk m c 1 ⟨0, h⟩) (iblk m c 2 ⟨0, h⟩) (iblk m c 3 ⟨0, h⟩) Y Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexists _; iexact HS0
  isplitl [HS1]; · iexists _; iexact HS1
  iintro ⟨H0, H1, H2, H3, H4, H5, H6, H7, H8, H9, H10, H11, H12, H13, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap; · iexact H8
    ipureintro; rfl
  isplitl [H9]; · iexact H9
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  iexists _; isplitr
  swap; · iexact H13
  ipureintro; exact ⟨_, (if_neg (by dsimp only; omega)).symm⟩

theorem sound_later (c : Dev nD) (n : ℕ) (hn : n + 1 < cfg0.N) :
    bodyPre m c ⟨n + 1, hn⟩ ⊢ wp frame (wpE (defs₀ (F := F)) Variants.none c none) Set.univ (bodyAt0 ⟨n + 1, hn⟩) (fun _ => bodyPost m c ⟨n + 1, hn⟩) := by
  have hN : n + 1 < 24 := lt_of_lt_of_eq hn (show cfg0.N = 24 from N_0)
  unfold bodyPre bodyPost bodyAt0
  simp only [before0_0, before0_1, before0_2, before0_3, kept0_6]
  rw [show (dats m 0 c).owesAt () (Fin.succ ⟨n + 1, hn⟩) = (dats m 0 c).owesAt () (Fin.castSucc ⟨n + 1, hn⟩) from rfl,
    after0_6 m c ⟨n, by omega⟩, after0_0, after0_1, after0_2, after0_3, after0_4, after0_5, after0_6, after0_7, after0_9]
  rw [show (dats m 0 c).Φ (Fin.succ ⟨n + 1, hn⟩) = PhiS m c (n + 1 + 1) hn from rfl, PhiS_succ, PhiS_castSucc, PhiS_succ]
  rw [show dwAt m c ⟨n, by omega⟩ = accAt m c n (by omega) from if_neg (by dsimp only; omega)]
  have h0 : ¬ (⟨n + 1, hn⟩ : Fin cfg0.N).val % 24 = 0 := by dsimp only; omega
  by_cases h1 : (⟨n + 1, hn⟩ : Fin cfg0.N).val % 24 = 23
  · rw [show dwAt m c ⟨n + 1, hn⟩ = dwLast (iblk m c 0 ⟨n + 1, hn⟩) (accAt m c (n + 1) hn) from if_pos h1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%Y10, %hY10, H10⟩, ⟨%Y11, %hY11, H11⟩, ⟨%Y12, %hY12, H12⟩, ⟨%Y, %hY, H13⟩⟩
    obtain rfl := finds_marked m c 8 n hn rfl rfl (Bool.eq_false_iff.mpr fun h => by have := (flush0_8 _).mp h; dsimp only at this; omega) Y8 hY8
    obtain rfl := finds_marked m c 10 n hn rfl rfl (Bool.eq_false_iff.mpr fun h => by have := (flush0_10 _).mp h; dsimp only at this; omega) Y10 hY10
    obtain rfl := finds_marked m c 11 n hn rfl rfl (Bool.eq_false_iff.mpr fun h => by have := (flush0_11 _).mp h; dsimp only at this; omega) Y11 hY11
    obtain rfl := finds_marked m c 12 n hn rfl rfl (Bool.eq_false_iff.mpr fun h => by have := (flush0_12 _).mp h; dsimp only at this; omega) Y12 hY12
    obtain ⟨d13, hd13⟩ := finds_marked m c 13 n hn rfl rfl (Bool.eq_false_iff.mpr fun h => by have := (flush0_13 _).mp h; dsimp only at this; omega) Y hY
    obtain rfl := hd13.trans (show histAt m c ⟨n, by omega⟩ d13 = histFirst (iblk m c 0 t0) (iblk m c 1 t0) d13 from if_neg (by dsimp only; omega))
    iapply (bodyC c (grid0.coords ⟨n + 1, hn⟩) _ _ _ _ _ _ _ _ _ _ _ _ _ _ _ _ _ _ _ _ _ _ _ _ _ _ _ _ _ _ _ _ (fun h => h0 ((hcond0_0 _).mp h)) ((hcond0_1 _).mpr h1) (iblk m c 0 ⟨n + 1, hn⟩) (iblk m c 1 ⟨n + 1, hn⟩) (iblk m c 2 ⟨n + 1, hn⟩) (iblk m c 3 ⟨n + 1, hn⟩) (accAt m c n (by omega)) (wcAt m c) (fun _ => xsV (iblk m c 0 t0)) (fun _ => wsV (iblk m c 0 t0)) (fun _ => dysV (iblk m c 0 t0)) (histFirst (iblk m c 0 t0) (iblk m c 1 t0) d13) (xmAt m c n (by omega)) (dmAt m c n (by omega)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [H8]; · iexact H8
    isplitl [H9]; · iexists _; iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro; rfl
    isplitl [H9]; · iexact H9
    isplitl [H10]
    · iexists _; isplitr
      swap; · iexact H10
      ipureintro; rfl
    isplitl [H11]
    · iexists _; isplitr
      swap; · iexact H11
      ipureintro; rfl
    isplitl [H12]
    · iexists _; isplitr
      swap; · iexact H12
      ipureintro; rfl
    iexists _; isplitr
    swap; · iexact H13
    ipureintro; exact ⟨_, (if_pos h1).symm⟩

  · rw [show dwAt m c ⟨n + 1, hn⟩ = accAt m c (n + 1) hn from if_neg h1]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%d9, H9⟩, ⟨%Y10, %hY10, H10⟩, ⟨%Y11, %hY11, H11⟩, ⟨%Y12, %hY12, H12⟩, ⟨%Y, %hY, H13⟩⟩
    obtain rfl := finds_marked m c 8 n hn rfl rfl (Bool.eq_false_iff.mpr fun h => by have := (flush0_8 _).mp h; dsimp only at this; omega) Y8 hY8
    obtain rfl := finds_marked m c 10 n hn rfl rfl (Bool.eq_false_iff.mpr fun h => by have := (flush0_10 _).mp h; dsimp only at this; omega) Y10 hY10
    obtain rfl := finds_marked m c 11 n hn rfl rfl (Bool.eq_false_iff.mpr fun h => by have := (flush0_11 _).mp h; dsimp only at this; omega) Y11 hY11
    obtain rfl := finds_marked m c 12 n hn rfl rfl (Bool.eq_false_iff.mpr fun h => by have := (flush0_12 _).mp h; dsimp only at this; omega) Y12 hY12
    obtain ⟨d13, hd13⟩ := finds_marked m c 13 n hn rfl rfl (Bool.eq_false_iff.mpr fun h => by have := (flush0_13 _).mp h; dsimp only at this; omega) Y hY
    obtain rfl := hd13.trans (show histAt m c ⟨n, by omega⟩ d13 = histFirst (iblk m c 0 t0) (iblk m c 1 t0) d13 from if_neg (by dsimp only; omega))
    iapply (bodyB c (grid0.coords ⟨n + 1, hn⟩) _ _ _ _ _ _ _ _ _ _ _ _ _ _ _ _ _ _ _ _ _ _ _ _ _ _ _ _ _ _ _ _ (fun h => h0 ((hcond0_0 _).mp h)) (fun h => h1 ((hcond0_1 _).mp h)) (iblk m c 0 ⟨n + 1, hn⟩) (iblk m c 1 ⟨n + 1, hn⟩) (iblk m c 2 ⟨n + 1, hn⟩) (iblk m c 3 ⟨n + 1, hn⟩) (accAt m c n (by omega)) (wcAt m c) (fun _ => xsV (iblk m c 0 t0)) (fun _ => wsV (iblk m c 0 t0)) (fun _ => dysV (iblk m c 0 t0)) (histFirst (iblk m c 0 t0) (iblk m c 1 t0) d13) (xmAt m c n (by omega)) (dmAt m c n (by omega)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexists _; iexact H7
    isplitl [H8]; · iexact H8
    isplitl [H9]; · iexists _; iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro; rfl
    isplitl [H9]; · iexact H9
    isplitl [H10]
    · iexists _; isplitr
      swap; · iexact H10
      ipureintro; rfl
    isplitl [H11]
    · iexists _; isplitr
      swap; · iexact H11
      ipureintro; rfl
    isplitl [H12]
    · iexists _; isplitr
      swap; · iexact H12
      ipureintro; rfl
    iexists _; isplitr
    swap; · iexact H13
    ipureintro; exact ⟨_, (if_neg h1).symm⟩

theorem sound_body (c : Dev nD) : ∀ t : Fin cfg0.N,
    bodyPre m c t ⊢ wp frame (wpE (defs₀ (F := F)) Variants.none c none) Set.univ (bodyAt0 t) (fun _ => bodyPost m c t)
  | ⟨0, h⟩ => sound_first m c h
  | ⟨n + 1, hn⟩ => sound_later m c n hn

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ marked (RelT m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

/-- After any point but the first the invariant gives back what the launch handed over. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 24 := N_0; omega)

end Cert.KernelIdeal.Gen

end
-- ==== Proof.KI.Run.lean ====
/- The kernel's run: from any memory it ends, and what its arrays then hold is what the proof data says. -/
module

public import proofs.«01_k».proof.Proof.KI.Data

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data, with the windows that some points leave alone read as relations. -/
abbrev rdats (c : Dev nD) : Pipeline.RDat τ (Elt F) Unit ℕ (UR sig nD τ) ℕ cfg0 c := (dats m 0 c).toRRel marked (RelT m c)

set_option backward.isDefEq.respectTransparency.types false in
/-- The run, with every semaphore counter at zero at its end. -/
theorem run_main_quiescent : θ_run defs (onTc (τ := τ) (main (F := F))) (s₀ m ρ)
    (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The kernel ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in (rdat := rdats m) h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in (rdat := rdats m) h.1 c 0 rfl).trans ((A_eq m c 0).trans (V_main_arg3 m c))⟩, h.2⟩) (run_main_quiescent m ρ)

end Cert.KernelIdeal.Gen

end
-- ==== Proof.KI.Same.lean ====
/- The kernel and its idealization are one text read at two instances, so one proof of the frame serves both. -/
module

public import proofs.«01_k».proof.Defs
public import proofs.«01_k».proof.Proof.Gen.Kernel
public import proofs.«01_k».proof.Proof.KI.Run

@[expose] public section

set_option maxRecDepth 100000

namespace Cert.Kernel.Gen

open Idealize.ShloMosaic

variable {F : FTy → Type} [FloatOps F]

/-- The two texts' body tables are one. -/
theorem same_defs₀ : Cert.Kernel.defs₀ (F := F) = Cert.KernelIdeal.defs₀ (F := F) :=
  congrArg Defs.onTc (funext fun l => funext fun a => match l, a with
    | 0, (t, s) => rfl
    | ⟨_ + 1, h⟩, _ => absurd h (Nat.not_lt.2 (Nat.le_add_left _ _)))

/-- The two texts' tables, the pipeline's labels included, are one. -/
theorem same_defs : Cert.Kernel.defs (F := F) = Cert.KernelIdeal.defs (F := F) :=
  congrArg (Pipeline.defs Cert.KernelIdeal.pcfgs) same_defs₀

/-- The kernel's frame at the bit-exact instance: the frame proved of the same text for any instance. -/
theorem quiescent : Cert.quiescent_Kernel := fun m ρ _ =>
  (congrArg (fun d => θ_run d (onTc (τ := Cert.Kernel.τ) (Cert.Kernel.main (F := Bits))) ⟨m, fun _ => 0, ρ⟩ _) same_defs).mpr
    (Cert.KernelIdeal.Gen.frame (F := Bits) m ρ)

end Cert.Kernel.Gen

end
-- ==== Proof.KI.Reads.lean ====
/- What the kernel reads at a point: of x and dy the point's 256 rows, of the weights and the history everything. -/
module

public import proofs.«01_k».proof.Proof.KI.Run
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ)

theorem idx_0 : ∀ t : Fin grid0.N, win0_0.index t = ![0, 0] := by decide +kernel
theorem idx_1 : ∀ t : Fin grid0.N, win0_1.index t = ![0, 0] := by decide +kernel
theorem idx_2 : ∀ t : Fin grid0.N, win0_2.index t = ![t.val, 0] := by decide +kernel
theorem idx_3 : ∀ t : Fin grid0.N, win0_3.index t = ![t.val, 0] := by decide +kernel
theorem idx_4 : ∀ t : Fin grid0.N, win0_4.index t = ![t.val, 0] := by decide +kernel
theorem idx_5 : ∀ t : Fin grid0.N, win0_5.index t = ![t.val, 0] := by decide +kernel
theorem idx_7 : ∀ t : Fin grid0.N, win0_7.index t = ![t.val, 0] := by decide +kernel
theorem idx_9 : ∀ t : Fin grid0.N, win0_9.index t = ![t.val, 0] := by decide +kernel

theorem lt_24 (t : Fin cfg0.N) : t.val < 24 := lt_of_lt_of_eq t.isLt (show cfg0.N = 24 from N_0)

/-- Row `i` of point `t`. -/
def row (t : Fin cfg0.N) (i : Fin 256) : Fin 6144 := ⟨t.val * 256 + i.val, by have := lt_24 t; have := i.isLt; omega⟩

theorem hist_read (c : Dev nD) (t : Fin cfg0.N) : (iblk m c 0 t : Vec F S3x16 .f32) = V m c main_arg3 := by
  funext y
  blk_ext [iblk, idx_0 t]

theorem w_read (c : Dev nD) (t : Fin cfg0.N) : (iblk m c 1 t : Vec F S4096x1024 .bf16) = V m c main_arg1 := by
  funext y
  blk_ext [iblk, idx_1 t]

theorem x_read (c : Dev nD) (t : Fin cfg0.N) (y : S256x4096.Idx) :
    (iblk m c 2 t : Vec F S256x4096 .bf16) y = V m c main_v0 (ValueIdx.ix2 (row t (y 0)) (y 1)) := by
  blk_ext [iblk, idx_2 t, row]

theorem dy_read (c : Dev nD) (t : Fin cfg0.N) (y : S256x1024.Idx) :
    (iblk m c 3 t : Vec F S256x1024 .bf16) y = V m c main_v1 (ValueIdx.ix2 (row t (y 0)) (y 1)) := by
  blk_ext [iblk, idx_3 t, row]

theorem left_unmarked (c : Dev nD) (w : Fin cfg0.W) (hw : marked w = false) (hi : ∀ i, cfg0.idle w i = false) (t : Fin cfg0.N) (X)
    (h : (rdats m c).Leaves w t X) : X = (dats m 0 c).after w t := by
  obtain ⟨Y, _, hX⟩ := h
  rw [(dats m 0 c).toRRel_after_of_eq_false hw] at hX
  have hX' : (dats m 0 c).Leaves w t X := hX
  unfold Dat.Leaves at hX'
  rw [hi (cfg0.grid.coords t), show cfg0.loose w = false from rfl] at hX'
  exact hX'

end Cert.KernelIdeal.Gen

end
-- ==== Proof.KI.Blocks.lean ====
/- What one block of the kernel computes, element by element, at the extended reals. -/
module

public import proofs.«01_k».proof.Proof.KI.Vals
public import Idealize.ShloMosaic.PureOps.Ideal.Laws
public import Idealize.ShloMosaic.Lib.Pointwise.Contract
public import Idealize.ShloMosaic.Lib.MatmulPlain

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An array of rows and columns. -/
abbrev Arr (a b : ℕ) : Type := (⟨2, ![a, b]⟩ : Shape).Idx → EReal

/-- The code of `v`: scaled by `inv` and clipped to `[lo, hi]` (the two bounds given as words). -/
def code (lo hi : BitVec 32) (inv v : EReal) : EReal :=
  min (Ideal.ofBits .f32 hi) (max (Ideal.ofBits .f32 lo) (v * inv))

/-- The codes of e4m3, whose largest number is 448, -/
abbrev code43 (inv v : EReal) : EReal := code 0xC3E00000#32 0x43E00000#32 inv v

/-- and of e5m2, whose largest is 57344. -/
abbrev code52 (inv v : EReal) : EReal := code 0xC7600000#32 0x47600000#32 inv v

/-- The product `a b`, -/
def mulAB {n k p : ℕ} (a : Arr n k) (b : Arr k p) (j : (⟨2, ![n, p]⟩ : Shape).Idx) : EReal :=
  ∑ q : Fin k, a (ValueIdx.ix2 (j 0) q) * b (ValueIdx.ix2 q (j 1))

/-- `a bᵀ` -/
def mulABt {n k p : ℕ} (a : Arr n k) (b : Arr p k) (j : (⟨2, ![n, p]⟩ : Shape).Idx) : EReal :=
  ∑ q : Fin k, a (ValueIdx.ix2 (j 0) q) * b (ValueIdx.ix2 (j 1) q)

/-- and `aᵀ b`. -/
def mulAtB {n k p : ℕ} (a : Arr k n) (b : Arr k p) (j : (⟨2, ![n, p]⟩ : Shape).Idx) : EReal :=
  ∑ q : Fin k, a (ValueIdx.ix2 q (j 0)) * b (ValueIdx.ix2 q (j 1))

theorem xc_apply (inv : Ideal .f32) (x : Vec Ideal S256x4096 .bf16) (i : S256x4096.Idx) :
    k0_pay68 (F := Ideal) inv x i = code43 inv (x i) := by
  unfold k0_pay68 k0_pay64
  dsimp only
  rw [shapeCast_self]
  rfl

theorem dyc_apply (inv : Ideal .f32) (x : Vec Ideal S256x1024 .bf16) (i : S256x1024.Idx) :
    k0_pay69 (F := Ideal) inv (k0_pay65 x) i = code52 inv (x i) := by
  unfold k0_pay69 k0_pay65
  rw [shapeCast_self]
  rfl

theorem wc_apply (inv : Ideal .f32) (w : Vec Ideal S4096x1024 .bf16) (i : S4096x1024.Idx) :
    k0_pay5 (F := Ideal) inv w i = code43 inv (w i) := by
  unfold k0_pay5
  rfl

theorem y_apply (a b : Ideal .f32) (xc : Vec Ideal S256x4096 .fp8e4m3) (wc : Vec Ideal S4096x1024 .fp8e4m3) (j : S256x1024.Idx) :
    k0_pay71 (F := Ideal) a b xc wc j = mulAB xc wc j * (a * b) := by
  unfold k0_pay71
  simp only [shapeCast_self]
  refine congrArg (· * (a * b)) ?_
  refine (Ideal.matmul_apply₁_of dot_S256x4096_S4096x1024_S256x1024_1_0_0_1_n_n rfl rfl xc wc _ j
    (fun q => ValueIdx.ix2 (j 0) q) (fun q => ValueIdx.ix2 q (j 1))
    (fun q => funext fun a => by fin_cases a <;> rfl) (fun q => funext fun a => by fin_cases a <;> rfl)).trans ?_
  rw [show (constant S256x1024 .f32 0x00000000#32 : FVec Ideal S256x1024 .f32) j = 0 from Ideal.ofBits_zero_f32, zero_add]
  rfl

theorem dx_apply (a b : Ideal .f32) (dyc : Vec Ideal S256x1024 .fp8e5m2) (wc : Vec Ideal S4096x1024 .fp8e4m3) (j : S256x4096.Idx) :
    k0_pay1 (F := Ideal) a b (k0_pay72 dyc) wc j = mulABt dyc wc j * (b * a) := by
  unfold k0_pay1 k0_pay72
  rw [shapeCast_self, shapeCast_self]
  refine congrArg (· * (b * a)) ?_
  refine (Ideal.matmul_apply₁_of dot_S256x1024_S4096x1024_S256x4096_1_1_0_0_n_n rfl rfl dyc wc _ j
    (fun q => ValueIdx.ix2 (j 0) q) (fun q => ValueIdx.ix2 (j 1) q)
    (fun q => funext fun a => by fin_cases a <;> rfl) (fun q => funext fun a => by fin_cases a <;> rfl)).trans ?_
  rw [show (constant S256x4096 .f32 0x00000000#32 : FVec Ideal S256x4096 .f32) j = 0 from Ideal.ofBits_zero_f32, zero_add]
  rfl

theorem dwStep_apply (acc : Vec Ideal S4096x1024 .f32) (xc : Vec Ideal S256x4096 .fp8e4m3) (dyc : Vec Ideal S256x1024 .fp8e5m2)
    (j : S4096x1024.Idx) : k0_pay70 (F := Ideal) acc xc dyc j = acc j + mulAtB xc dyc j := by
  unfold k0_pay70
  rw [shapeCast_self, shapeCast_self, shapeCast_self]
  refine congrArg (acc j + ·) ?_
  refine (Ideal.matmul_apply₁_of dot_S256x4096_S256x1024_S4096x1024_0_0_1_1_n_n rfl rfl xc dyc _ j
    (fun q => ValueIdx.ix2 q (j 0)) (fun q => ValueIdx.ix2 q (j 1))
    (fun q => funext fun a => by fin_cases a <;> rfl) (fun q => funext fun a => by fin_cases a <;> rfl)).trans ?_
  rw [show (constant S4096x1024 .f32 0x00000000#32 : FVec Ideal S4096x1024 .f32) j = 0 from Ideal.ofBits_zero_f32, zero_add]
  rfl

theorem dwFirst_apply (j : S4096x1024.Idx) : k0_pay63 (F := Ideal) j = 0 := Ideal.ofBits_zero_f32

theorem dwLast_apply (a b : Ideal .f32) (acc : Vec Ideal S4096x1024 .f32) (j : S4096x1024.Idx) :
    k0_pay2 (F := Ideal) a b acc j = acc j * (a * b) := by
  unfold k0_pay2
  rw [shapeCast_self]
  rfl

end Cert.KernelIdeal.Gen

end
-- ==== Proof.KI.Maxima.lean ====
/- Maxima at the extended reals, by their upper bounds: a maximum is at most `b` exactly when everything under it is. -/
module

public import proofs.«01_k».proof.Proof.KI.Vals
public import Idealize.ShloMosaic.PureOps.Ideal.Laws

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Every element is at most `b`. -/
def AllLe {s : Shape} (x : s.Idx → EReal) (b : EReal) : Prop := ∀ i, x i ≤ b

/-- The magnitudes of an array. -/
def mag {s : Shape} (x : s.Idx → EReal) : s.Idx → EReal := fun i => max (x i) (-(x i))

theorem lowest_f32 : Ideal.ofBits .f32 0xFF800000#32 = ⊥ := by simp [Ideal.ofBits, Ideal.ieee]
theorem lowest_bf16 : Ideal.ofBits .bf16 0xFF80#16 = ⊥ := by simp [Ideal.ofBits, Ideal.ieee]
theorem highest_f32 : Ideal.ofBits .f32 0x7F800000#32 = ⊤ := by simp [Ideal.ofBits, Ideal.ieee]
theorem zero_bf16 : Ideal.ofBits .bf16 0x0000#16 = 0 := by simp [Ideal.ofBits, Ideal.ieee]

variable {s t : Shape} {axes : List (Fin s.rank)} {φ : FTy}

theorem shapeCast_all (x : s.Idx → EReal) (h : s.ShapeCasts t) (b : EReal) : AllLe (shapeCast t x h) b ↔ AllLe x b :=
  ⟨fun H i => by
    have := H ((Shape.reshapeEquiv h).symm i)
    unfold shapeCast at this
    rwa [Equiv.apply_symm_apply] at this, fun H i => H _⟩

/-- Widening changes nothing. -/
theorem extf_all {ψ : FTy} (v : FVec Ideal s φ) (h : φ.bits < ψ.bits) (b : EReal) : AllLe (extf ψ v h) b ↔ AllLe v b := Iff.rfl

theorem reduce_le (src : FVec Ideal s φ) (acc : BitVec φ.bits) (h : s.Reduces axes t) (hφ : FKind.Formats φ)
    (hacc : acc = FKind.maximumf.neutral φ hφ) (hb : Ideal.ofBits φ acc = ⊥) (j : t.Idx) (b : EReal) :
    multiReduction .maximumf axes t src acc h hφ hacc j ≤ b ↔ ∀ i, h.drop i = j → src i ≤ b := by
  rw [multiReduction_maximumf_eq_fold]
  refine (Finset.fold_max_le (f := src) (b := FloatOps.ofBits φ acc) b).trans ?_
  constructor
  · intro H i hi
    exact H.2 i (Finset.mem_filter.mpr ⟨Finset.mem_univ _, hi⟩)
  · intro H
    refine ⟨?_, fun i hi => H i (Finset.mem_filter.mp hi).2⟩
    show Ideal.ofBits φ acc ≤ b
    rw [hb]; exact bot_le

/-- A reduction keeps the upper bounds of the whole array. -/
theorem reduce_all (src : FVec Ideal s φ) (acc : BitVec φ.bits) (h : s.Reduces axes t) (hφ : FKind.Formats φ)
    (hacc : acc = FKind.maximumf.neutral φ hφ) (hb : Ideal.ofBits φ acc = ⊥) (b : EReal) :
    AllLe (multiReduction .maximumf axes t src acc h hφ hacc) b ↔ AllLe src b :=
  ⟨fun H i => (reduce_le src acc h hφ hacc hb _ b).mp (H (h.drop i)) i rfl,
    fun H j => (reduce_le src acc h hφ hacc hb j b).mpr fun i _ => H i⟩

/-- Into a single element. -/
theorem reduce_total (src : FVec Ideal s φ) (acc : BitVec φ.bits) (h : s.Reduces axes t) (hφ : FKind.Formats φ)
    (hacc : acc = FKind.maximumf.neutral φ hφ) (hb : Ideal.ofBits φ acc = ⊥) (ht : ∀ a, t.size a = 1) (j : t.Idx) (b : EReal) :
    multiReduction .maximumf axes t src acc h hφ hacc j ≤ b ↔ AllLe src b :=
  (reduce_le src acc h hφ hacc hb j b).trans
    ⟨fun H i => H i (funext fun a => Fin.ext (by
      have := (h.drop i a).isLt; have := (j a).isLt; have := ht a; omega)), fun H i _ => H i⟩

/-- A row of sixteen, from the left. -/
theorem rowMax_le (r : Fin 16 → Ideal .f32) (b : EReal) : rowMax r ≤ b ↔ ∀ k, r k ≤ b := by
  have e : rowMax r = max (max (max (max (max (max (max (max (max (max (max (max (max (max (max
    (r 0) (r 1)) (r 2)) (r 3)) (r 4)) (r 5)) (r 6)) (r 7)) (r 8)) (r 9)) (r 10)) (r 11)) (r 12)) (r 13)) (r 14)) (r 15) := rfl
  rw [e]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ k
    fin_cases k <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-! ## The kernel's maxima -/

/-- A point's step of the running maxima of x, -/
theorem pay66_all (x : Vec Ideal S256x4096 .bf16) (a : Vec Ideal S16x4096 .bf16) (b : EReal) :
    AllLe (s := S16x4096) (k0_pay66 (F := Ideal) x a) b ↔ AllLe (s := S16x4096) a b ∧ AllLe (s := S256x4096) (mag x) b := by
  unfold k0_pay66 k0_pay64
  dsimp only
  simp only [shapeCast_self]
  refine Iff.trans ?_ (and_congr_right fun _ => (reduce_all (φ := .bf16)
    (shapeCast S16x16x4096 (mag x) shapeCasts_S256x4096_S16x16x4096) 0xFF80#16 reduces_S16x16x4096_S16x4096 (.inr rfl) rfl lowest_bf16 b).trans
    (shapeCast_all (mag x) shapeCasts_S256x4096_S16x16x4096 b))
  exact ⟨fun H => ⟨fun i => (max_le_iff.mp (H i)).1, fun i => (max_le_iff.mp (H i)).2⟩, fun H i => max_le (H.1 i) (H.2 i)⟩

/-- and of dy, -/
theorem pay67_all (x : Vec Ideal S256x1024 .bf16) (a : Vec Ideal S16x1024 .bf16) (b : EReal) :
    AllLe (s := S16x1024) (k0_pay67 (F := Ideal) x a) b ↔ AllLe (s := S16x1024) a b ∧ AllLe (s := S256x1024) (mag x) b := by
  unfold k0_pay67 k0_pay65
  dsimp only
  simp only [shapeCast_self]
  refine Iff.trans ?_ (and_congr_right fun _ => (reduce_all (φ := .bf16)
    (shapeCast S16x16x1024 (mag x) shapeCasts_S256x1024_S16x16x1024) 0xFF80#16 reduces_S16x16x1024_S16x1024 (.inr rfl) rfl lowest_bf16 b).trans
    (shapeCast_all (mag x) shapeCasts_S256x1024_S16x16x1024 b))
  exact ⟨fun H => ⟨fun i => (max_le_iff.mp (H i)).1, fun i => (max_le_iff.mp (H i)).2⟩, fun H i => max_le (H.1 i) (H.2 i)⟩

/-- both of which start at zero. -/
theorem pay61_all (b : EReal) : AllLe (s := S16x4096) (k0_pay61 (F := Ideal)) b ↔ 0 ≤ b := by
  unfold k0_pay61
  dsimp only
  refine (shapeCast_all _ _ b).trans ?_
  have : ∀ i, broadcast S16x4096 (Scalar.ofBits (F := Ideal) .bf16 0x0000#16) i = (0 : EReal) := fun _ => zero_bf16
  exact ⟨fun H => (this _).ge.trans (H (Shape.Idx.first (s := S16x4096) (by decide))), fun H i => (this i).le.trans H⟩

theorem pay62_all (b : EReal) : AllLe (s := S16x1024) (k0_pay62 (F := Ideal)) b ↔ 0 ≤ b := by
  unfold k0_pay62
  dsimp only
  refine (shapeCast_all _ _ b).trans ?_
  have : ∀ i, broadcast S16x1024 (Scalar.ofBits (F := Ideal) .bf16 0x0000#16) i = (0 : EReal) := fun _ => zero_bf16
  exact ⟨fun H => (this _).ge.trans (H (Shape.Idx.first (s := S16x1024) (by decide))), fun H i => (this i).le.trans H⟩

/-- The maximum over the sixteen rows that are left, of x, -/
theorem pay3_le (a : Vec Ideal S16x4096 .bf16) (b : EReal) : k0_pay3 (F := Ideal) a ≤ b ↔ AllLe (s := S16x4096) a b := by
  unfold k0_pay3
  dsimp only
  unfold extractAt
  rw [shapeCast]
  exact (reduce_total _ _ reduces_S1x16x4096_S1 (.inl rfl) rfl lowest_f32 (by decide) _ b).trans (shapeCast_all (s := S16x4096) _ _ b)

/-- of dy, -/
theorem pay4_le (a : Vec Ideal S16x1024 .bf16) (b : EReal) : k0_pay4 (F := Ideal) a ≤ b ↔ AllLe (s := S16x1024) a b := by
  unfold k0_pay4
  dsimp only
  unfold extractAt
  rw [shapeCast]
  exact (reduce_total _ _ reduces_S1x16x1024_S1 (.inl rfl) rfl lowest_f32 (by decide) _ b).trans (shapeCast_all (s := S16x1024) _ _ b)

/-- and of the weights. -/
theorem pay6_le (w : Vec Ideal S4096x1024 .bf16) (b : EReal) : k0_pay6 (F := Ideal) w ≤ b ↔ AllLe (s := S4096x1024) (mag w) b := by
  unfold k0_pay6
  dsimp only
  unfold extractAt
  rw [shapeCast]
  refine (reduce_total _ _ reduces_S1x16x1024_S1 (.inl rfl) rfl lowest_f32 (by decide) _ b).trans ?_
  refine (shapeCast_all (s := S16x1024) (t := S1x16x1024) _ shapeCasts_S16x1024_S1x16x1024 b).trans ?_
  refine (extf_all (s := S16x1024) (φ := .bf16) _ _ b).trans ?_
  exact (reduce_all (φ := .bf16) (shapeCast S256x16x1024 (mag w) shapeCasts_S4096x1024_S256x16x1024) 0xFF80#16
    reduces_S256x16x1024_S16x1024 (.inr rfl) rfl lowest_bf16 b).trans (shapeCast_all (mag w) shapeCasts_S4096x1024_S256x16x1024 b)

end Cert.KernelIdeal.Gen

end
-- ==== Proof.KI.Meaning.lean ====
/- The results as functions of the arrays, and that the kernel ends with them. -/
module

public import proofs.«01_k».proof.Proof.KI.Blocks
public import proofs.«01_k».proof.Proof.KI.Maxima

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The codes of x, of the weights and of dy, -/
def xcA (h : Arr 3 16) (x : Arr 6144 4096) : Arr 6144 4096 := fun i => code43 (xinvV (F := Ideal) h) (x i)
def wcA (h : Arr 3 16) (w : Arr 4096 1024) : Arr 4096 1024 := fun i => code43 (winvV (F := Ideal) h) (w i)
def dycA (h : Arr 3 16) (d : Arr 6144 1024) : Arr 6144 1024 := fun i => code52 (dyinvV (F := Ideal) h) (d i)

/-- and the three products, scaled. -/
def yA (h : Arr 3 16) (x : Arr 6144 4096) (w : Arr 4096 1024) : Arr 6144 1024 := fun j =>
  mulAB (xcA h x) (wcA h w) j * (xsV (F := Ideal) h * wsV (F := Ideal) h)
def dxA (h : Arr 3 16) (w : Arr 4096 1024) (d : Arr 6144 1024) : Arr 6144 4096 := fun j =>
  mulABt (dycA h d) (wcA h w) j * (dysV (F := Ideal) h * wsV (F := Ideal) h)
def dwA (h : Arr 3 16) (x : Arr 6144 4096) (d : Arr 6144 1024) : Arr 4096 1024 := fun j =>
  mulAtB (xcA h x) (dycA h d) j * (xsV (F := Ideal) h * dysV (F := Ideal) h)

/-- The largest magnitude of an array. -/
def absmax {s : Shape} (x : s.Idx → EReal) : EReal := ⨆ i, mag x i

theorem absmax_le {s : Shape} (x : s.Idx → EReal) (b : EReal) : absmax x ≤ b ↔ AllLe (mag x) b := iSup_le_iff

/-- The history's new table: the three largest magnitudes in front of the history without its oldest column. -/
def nhA (h : Arr 3 16) (x : Arr 6144 4096) (w : Arr 4096 1024) (d : Arr 6144 1024) : Arr 3 16 := fun y =>
  if (y 1).val = 0 then (if (y 0).val = 0 then absmax x else if (y 0).val = 1 then absmax w else absmax d)
  else h (ValueIdx.ix2 (y 0) ⟨(y 1).val - 1, lt_of_le_of_lt (Nat.sub_le _ _) (y 1).isLt⟩)

end Cert.KernelIdeal.Gen

end
-- ==== Proof.KI.Accumulated.lean ====
/- What the kernel has accumulated after its last point, at the extended reals: the sum of dw over all rows, and the maxima. -/
module

public import proofs.«01_k».proof.Proof.KI.Reads
public import proofs.«01_k».proof.Proof.KI.Meaning

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arrays the kernel is given: the history, x, the weights and dy. -/
abbrev hV (c : Dev nD) : Arr 3 16 := V m c main_arg3
abbrev xV (c : Dev nD) : Arr 6144 4096 := V m c main_v0
abbrev wV (c : Dev nD) : Arr 4096 1024 := V m c main_arg1
abbrev dV (c : Dev nD) : Arr 6144 1024 := V m c main_v1

/-- A point's rows of the codes of x, -/
theorem xc_block (c : Dev nD) (t : Fin cfg0.N) (y : S256x4096.Idx) :
    xcV (F := Ideal) (iblk m c 0 t) (iblk m c 2 t) y = xcA (hV m c) (xV m c) (ValueIdx.ix2 (row t (y 0)) (y 1)) := by
  unfold xcV xcA
  rw [xc_apply, hist_read, x_read]

/-- of dy, -/
theorem dyc_block (c : Dev nD) (t : Fin cfg0.N) (y : S256x1024.Idx) :
    dycV (F := Ideal) (iblk m c 0 t) (iblk m c 3 t) y = dycA (hV m c) (dV m c) (ValueIdx.ix2 (row t (y 0)) (y 1)) := by
  unfold dycV dycA
  rw [dyc_apply, hist_read, dy_read]

/-- and the codes of the weights. -/
theorem wc_block (c : Dev nD) : wcAt m c = wcA (hV m c) (wV m c) := by
  funext y
  unfold wcAt wcV wcA
  rw [wc_apply, hist_read, w_read]

/-- A point's rows of y -/
theorem y_block (c : Dev nD) (t : Fin cfg0.N) (y : S256x1024.Idx) :
    yV (F := Ideal) (iblk m c 0 t) (iblk m c 2 t) (wcAt m c) y
      = yA (hV m c) (xV m c) (wV m c) (ValueIdx.ix2 (row t (y 0)) (y 1)) := by
  unfold yV yA
  rw [y_apply, hist_read, wc_block]
  refine congrArg (· * _) ?_
  unfold mulAB
  refine Finset.sum_congr rfl fun q _ => ?_
  have := xc_block m c t (ValueIdx.ix2 (y 0) q)
  rw [hist_read] at this
  rw [this]

/-- and of dx. -/
theorem dx_block (c : Dev nD) (t : Fin cfg0.N) (y : S256x4096.Idx) :
    dxV (F := Ideal) (iblk m c 0 t) (iblk m c 3 t) (wcAt m c) y
      = dxA (hV m c) (wV m c) (dV m c) (ValueIdx.ix2 (row t (y 0)) (y 1)) := by
  unfold dxV dxA
  rw [dx_apply, hist_read, wc_block]
  refine congrArg (· * _) ?_
  unfold mulABt
  refine Finset.sum_congr rfl fun q _ => ?_
  have := dyc_block m c t (ValueIdx.ix2 (y 0) q)
  rw [hist_read] at this
  rw [this]

/-! ## dw -/

/-- Row `r`'s part of the sum. -/
def part (c : Dev nD) (j : S4096x1024.Idx) (r : Fin 6144) : EReal :=
  xcA (hV m c) (xV m c) (ValueIdx.ix2 r (j 0)) * dycA (hV m c) (dV m c) (ValueIdx.ix2 r (j 1))

theorem step_apply (c : Dev nD) (t : Fin cfg0.N) (acc : Vec Ideal S4096x1024 .f32) (j : S4096x1024.Idx) :
    dwStep (F := Ideal) (iblk m c 0 t) (iblk m c 2 t) (iblk m c 3 t) acc j = acc j + ∑ i : Fin 256, part m c j (row t i) := by
  unfold dwStep
  rw [dwStep_apply]
  refine congrArg (acc j + ·) ?_
  unfold mulAtB part
  exact Finset.sum_congr rfl fun q _ => congrArg₂ (· * ·) (xc_block m c t (ValueIdx.ix2 q (j 0))) (dyc_block m c t (ValueIdx.ix2 q (j 1)))

theorem acc_apply (c : Dev nD) (j : S4096x1024.Idx) : ∀ (n : ℕ) (hn : n < cfg0.N),
    accAt m c n hn j = ∑ t : Fin (n + 1), ∑ i : Fin 256, part m c j (row ⟨t.val, by omega⟩ i)
  | 0, hn => by
    unfold accAt
    rw [step_apply, dwFirst_apply, zero_add, Fin.sum_univ_one]
    rfl
  | n + 1, hn => by
    unfold accAt
    rw [step_apply, acc_apply c j n]
    exact (Fin.sum_univ_castSucc fun t : Fin (n + 2) => ∑ i : Fin 256, part m c j (row ⟨t.val, by omega⟩ i)).symm

/-- The rows, point by point. -/
def rows : Fin 24 × Fin 256 ≃ Fin 6144 := finProdFinEquiv.trans (finCongr (by norm_num))

theorem sum_rows (f : Fin 6144 → EReal) : ∑ t : Fin 24, ∑ i : Fin 256, f ⟨t.val * 256 + i.val, by omega⟩ = ∑ r, f r := by
  rw [← Fintype.sum_prod_type']
  refine Fintype.sum_equiv rows _ _ fun p => congrArg f (Fin.ext ?_)
  show p.1.val * 256 + p.2.val = p.2.val + 256 * p.1.val
  omega

/-- The last point. -/
abbrev t23 : Fin cfg0.N := ⟨23, lt_of_lt_of_eq (by decide : 23 < 24) (show cfg0.N = 24 from N_0).symm⟩

theorem dw_last (c : Dev nD) : dwAt m c t23 = dwA (hV m c) (xV m c) (dV m c) := by
  funext j
  unfold dwAt
  rw [if_pos (by decide)]
  unfold dwLast dwA
  rw [dwLast_apply, hist_read, acc_apply]
  refine congrArg (· * _) ?_
  exact sum_rows (part m c j)

/-! ## The maxima -/

theorem mag_nonneg {s : Shape} (x : s.Idx → EReal) (i : s.Idx) : 0 ≤ mag x i := by
  unfold mag
  rcases le_total 0 (x i) with h | h
  · exact le_max_of_le_left h
  · exact le_max_of_le_right (EReal.neg_nonneg.mpr h)

/-- What holds at every row of every point holds at every row. -/
theorem all_rows (P : Fin 6144 → Prop) :
    (∀ t : Fin cfg0.N, ∀ i : Fin 256, P (row t i)) ↔ ∀ r, P r :=
  ⟨fun H r => by
    have h := H ⟨r.val / 256, by rw [show cfg0.N = 24 from N_0]; have := r.isLt; omega⟩ ⟨r.val % 256, Nat.mod_lt _ (by decide)⟩
    have e : row ⟨r.val / 256, by rw [show cfg0.N = 24 from N_0]; have := r.isLt; omega⟩ ⟨r.val % 256, Nat.mod_lt _ (by decide)⟩ = r :=
      Fin.ext (show r.val / 256 * 256 + r.val % 256 = r.val by omega)
    rwa [e] at h, fun H t i => H _⟩

theorem xm_all (c : Dev nD) (b : EReal) : ∀ (n : ℕ) (hn : n < cfg0.N),
    AllLe (s := S16x4096) (xmAt m c n hn) b ↔ 0 ≤ b ∧ ∀ t : Fin cfg0.N, t.val ≤ n → AllLe (s := S256x4096) (mag (iblk m c 2 t)) b
  | 0, hn => by
    unfold xmAt
    rw [pay66_all, pay61_all]
    refine and_congr_right fun _ => ⟨fun H t ht => ?_, fun H => H ⟨0, hn⟩ le_rfl⟩
    have : t = ⟨0, hn⟩ := Fin.ext (by simpa using ht)
    rw [this]; exact H
  | n + 1, hn => by
    unfold xmAt
    rw [pay66_all, xm_all c b n]
    constructor
    · rintro ⟨⟨h0, H⟩, h1⟩
      refine ⟨h0, fun t ht => ?_⟩
      rcases Nat.lt_or_ge t.val (n + 1) with h | h
      · exact H t (by omega)
      · have : t = ⟨n + 1, hn⟩ := Fin.ext (by show t.val = n + 1; omega)
        rw [this]; exact h1
    · rintro ⟨h0, H⟩
      exact ⟨⟨h0, fun t ht => H t (by omega)⟩, H ⟨n + 1, hn⟩ le_rfl⟩

theorem dm_all (c : Dev nD) (b : EReal) : ∀ (n : ℕ) (hn : n < cfg0.N),
    AllLe (s := S16x1024) (dmAt m c n hn) b ↔ 0 ≤ b ∧ ∀ t : Fin cfg0.N, t.val ≤ n → AllLe (s := S256x1024) (mag (iblk m c 3 t)) b
  | 0, hn => by
    unfold dmAt
    rw [pay67_all, pay62_all]
    refine and_congr_right fun _ => ⟨fun H t ht => ?_, fun H => H ⟨0, hn⟩ le_rfl⟩
    have : t = ⟨0, hn⟩ := Fin.ext (by simpa using ht)
    rw [this]; exact H
  | n + 1, hn => by
    unfold dmAt
    rw [pay67_all, dm_all c b n]
    constructor
    · rintro ⟨⟨h0, H⟩, h1⟩
      refine ⟨h0, fun t ht => ?_⟩
      rcases Nat.lt_or_ge t.val (n + 1) with h | h
      · exact H t (by omega)
      · have : t = ⟨n + 1, hn⟩ := Fin.ext (by show t.val = n + 1; omega)
        rw [this]; exact h1
    · rintro ⟨h0, H⟩
      exact ⟨⟨h0, fun t ht => H t (by omega)⟩, H ⟨n + 1, hn⟩ le_rfl⟩

/-- The largest magnitude of x, -/
theorem xm_last (c : Dev nD) : k0_pay3 (F := Ideal) (xmAt m c 23 t23.isLt) = absmax (xV m c) := by
  refine eq_of_forall_ge_iff fun b => ?_
  rw [pay3_le, xm_all, absmax_le]
  constructor
  · rintro ⟨_, H⟩ j
    obtain ⟨r, q, rfl⟩ : ∃ r q, j = ValueIdx.ix2 r q := ⟨j 0, j 1, (ValueIdx.eq_ix2 j)⟩
    refine (all_rows (fun r => mag (xV m c) (ValueIdx.ix2 r q) ≤ b)).mp (fun t i => ?_) r
    have h := H t (by have := lt_24 t; omega) (ValueIdx.ix2 i q)
    unfold mag at h ⊢
    rwa [x_read] at h
  · intro H
    refine ⟨(mag_nonneg (xV m c) (ValueIdx.ix2 0 0)).trans (H _), fun t _ y => ?_⟩
    unfold mag
    rw [x_read]
    exact H _

/-- of dy -/
theorem dm_last (c : Dev nD) : k0_pay4 (F := Ideal) (dmAt m c 23 t23.isLt) = absmax (dV m c) := by
  refine eq_of_forall_ge_iff fun b => ?_
  rw [pay4_le, dm_all, absmax_le]
  constructor
  · rintro ⟨_, H⟩ j
    obtain ⟨r, q, rfl⟩ : ∃ r q, j = ValueIdx.ix2 r q := ⟨j 0, j 1, (ValueIdx.eq_ix2 j)⟩
    refine (all_rows (fun r => mag (dV m c) (ValueIdx.ix2 r q) ≤ b)).mp (fun t i => ?_) r
    have h := H t (by have := lt_24 t; omega) (ValueIdx.ix2 i q)
    unfold mag at h ⊢
    rwa [dy_read] at h
  · intro H
    refine ⟨(mag_nonneg (dV m c) (ValueIdx.ix2 0 0)).trans (H _), fun t _ y => ?_⟩
    unfold mag
    rw [dy_read]
    exact H _

/-- and of the weights. -/
theorem wm_first (c : Dev nD) : k0_pay6 (F := Ideal) (iblk m c 1 t0) = absmax (wV m c) := by
  refine eq_of_forall_ge_iff fun b => ?_
  rw [pay6_le, absmax_le, w_read]

/-- The history's new table, whatever its buffer held at first. -/
theorem hist_last (c : Dev nD) (d : Vec Ideal S3x16 .f32) :
    histAt m c t23 d = nhA (hV m c) (xV m c) (wV m c) (dV m c) := by
  funext y
  unfold histAt
  rw [if_pos (by decide)]
  unfold histLast histFirst nhA
  rw [xm_last, dm_last, wm_first, hist_read]
  have hy : (y 0).val < 3 := (y 0).isLt
  by_cases h1 : (y 1).val = 0
  · rcases (by omega : (y 0).val = 0 ∨ (y 0).val = 1 ∨ (y 0).val = 2) with h0 | h0 | h0 <;> simp only [h0, h1] <;> rfl
  · simp only [if_neg h1]

end Cert.KernelIdeal.Gen

end
-- ==== Proof.KI.Results.lean ====
/- What the kernel's result arrays hold at the end of its run, at the extended reals. -/
module

public import proofs.«01_k».proof.Proof.KI.Accumulated

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- What may be left in the windows' buffers at the points that write back. -/
abbrev Left (c : Dev nD) (after : (w' : Fin cfg0.W) → Fin cfg0.N → (cfg0.win w').block.Idx → Elt Ideal (cfg0.win w').elt) : Prop :=
  ∀ (w : Fin cfg0.W) (u : Fin cfg0.N), (cfg0.win w).flush u = true → (rdats m c).Leaves w u (after w u)

theorem arr_y (c : Dev nD) (after) (h : Left m c after) :
    ((rdats m c).withAfter after).arrAt 4 cfg0.N = yA (hV m c) (xV m c) (wV m c) := by
  refine ((rdats m c).withAfter after).arrAt_eq_of_covers 4 _ (by decide +kernel) fun t hf y => ?_
  blk_simp
  rw [Pipeline.RDat.withAfter_after, left_unmarked m c 4 rfl (fun _ => rfl) t _ (h 4 t hf), after0_4]
  refine (y_block m c t y).trans (congrArg _ ?_)
  blk_ext [idx_4 t, row]

theorem arr_dx (c : Dev nD) (after) (h : Left m c after) :
    ((rdats m c).withAfter after).arrAt 5 cfg0.N = dxA (hV m c) (wV m c) (dV m c) := by
  refine ((rdats m c).withAfter after).arrAt_eq_of_covers 5 _ (by decide +kernel) fun t hf y => ?_
  blk_simp
  rw [Pipeline.RDat.withAfter_after, left_unmarked m c 5 rfl (fun _ => rfl) t _ (h 5 t hf), after0_5]
  refine (dx_block m c t y).trans (congrArg _ ?_)
  blk_ext [idx_5 t, row]

theorem arr_xc (c : Dev nD) (after) (h : Left m c after) :
    ((rdats m c).withAfter after).arrAt 7 cfg0.N = xcA (hV m c) (xV m c) := by
  refine ((rdats m c).withAfter after).arrAt_eq_of_covers 7 _ (by decide +kernel) fun t hf y => ?_
  blk_simp
  rw [Pipeline.RDat.withAfter_after, left_unmarked m c 7 rfl (fun _ => rfl) t _ (h 7 t hf), after0_7]
  refine (xc_block m c t y).trans (congrArg _ ?_)
  blk_ext [idx_7 t, row]

theorem arr_dyc (c : Dev nD) (after) (h : Left m c after) :
    ((rdats m c).withAfter after).arrAt 9 cfg0.N = dycA (hV m c) (dV m c) := by
  refine ((rdats m c).withAfter after).arrAt_eq_of_covers 9 _ (by decide +kernel) fun t hf y => ?_
  blk_simp
  rw [Pipeline.RDat.withAfter_after, left_unmarked m c 9 rfl (fun _ => rfl) t _ (h 9 t hf), after0_9]
  refine (dyc_block m c t y).trans (congrArg _ ?_)
  blk_ext [idx_9 t, row]

theorem arr_dw (c : Dev nD) (after) (h : Left m c after) :
    ((rdats m c).withAfter after).arrAt 6 cfg0.N = dwA (hV m c) (xV m c) (dV m c) := by
  refine ((rdats m c).withAfter after).arrAt_eq_of_after_last 6 t23 (by decide +kernel) _ fun j => ?_
  have hl := h 6 t23 (by decide +kernel)
  blk_simp
  rw [Pipeline.RDat.withAfter_after, left_unmarked m c 6 rfl (fun _ => rfl) t23 _ hl, after0_6]
  exact congrFun (dw_last m c) j

theorem arr_wc (c : Dev nD) (after) (h : Left m c after) :
    ((rdats m c).withAfter after).arrAt 8 cfg0.N = wcA (hV m c) (wV m c) := by
  refine ((rdats m c).withAfter after).arrAt_eq_of_after_last 8 t23 (by decide +kernel) _ fun j => ?_
  have hl := h 8 t23 (by decide +kernel)
  have hm : after 8 t23 = _ := (dats m 0 c).toRRel_leaves (w := 8) rfl hl
  blk_simp
  rw [Pipeline.RDat.withAfter_after, hm]
  exact congrFun (wc_block m c) j

theorem arr_xs (c : Dev nD) (after) (h : Left m c after) :
    ((rdats m c).withAfter after).arrAt 10 cfg0.N = fun _ => xsV (F := Ideal) (hV m c) := by
  refine ((rdats m c).withAfter after).arrAt_eq_of_after_last 10 t23 (by decide +kernel) _ fun j => ?_
  have hl := h 10 t23 (by decide +kernel)
  have hm : after 10 t23 = _ := (dats m 0 c).toRRel_leaves (w := 10) rfl hl
  blk_simp
  rw [Pipeline.RDat.withAfter_after, hm]
  exact congrArg (xsV (F := Ideal)) (hist_read m c t0)

theorem arr_ws (c : Dev nD) (after) (h : Left m c after) :
    ((rdats m c).withAfter after).arrAt 11 cfg0.N = fun _ => wsV (F := Ideal) (hV m c) := by
  refine ((rdats m c).withAfter after).arrAt_eq_of_after_last 11 t23 (by decide +kernel) _ fun j => ?_
  have hl := h 11 t23 (by decide +kernel)
  have hm : after 11 t23 = _ := (dats m 0 c).toRRel_leaves (w := 11) rfl hl
  blk_simp
  rw [Pipeline.RDat.withAfter_after, hm]
  exact congrArg (wsV (F := Ideal)) (hist_read m c t0)

theorem arr_dys (c : Dev nD) (after) (h : Left m c after) :
    ((rdats m c).withAfter after).arrAt 12 cfg0.N = fun _ => dysV (F := Ideal) (hV m c) := by
  refine ((rdats m c).withAfter after).arrAt_eq_of_after_last 12 t23 (by decide +kernel) _ fun j => ?_
  have hl := h 12 t23 (by decide +kernel)
  have hm : after 12 t23 = _ := (dats m 0 c).toRRel_leaves (w := 12) rfl hl
  blk_simp
  rw [Pipeline.RDat.withAfter_after, hm]
  exact congrArg (dysV (F := Ideal)) (hist_read m c t0)

theorem arr_nh (c : Dev nD) (after) (h : Left m c after) :
    ((rdats m c).withAfter after).arrAt 13 cfg0.N = nhA (hV m c) (xV m c) (wV m c) (dV m c) := by
  refine ((rdats m c).withAfter after).arrAt_eq_of_after_last 13 t23 (by decide +kernel) _ fun j => ?_
  have hl := h 13 t23 (by decide +kernel)
  obtain ⟨d, hm⟩ : ∃ d, after 13 t23 = histAt m c t23 d := (dats m 0 c).toRRel_leaves (w := 13) rfl hl
  blk_simp
  rw [Pipeline.RDat.withAfter_after, hm]
  exact congrFun (hist_last m c d) j

/-- The kernel ends with these results, its arguments unchanged. -/
theorem run_values : θ_run defs (onTc (τ := τ) (main (F := Ideal))) ⟨m, fun _ => 0, ρ⟩ (fun r => ∀ c : Dev nD,
      r.2.mem ((c.tc : Thread nD τ).loc main_v2_0) = (yA (hV m c) (xV m c) (wV m c) : Buf (Elt Ideal) ((c.tc : Thread nD τ).loc main_v2_0))
      ∧ r.2.mem ((c.tc : Thread nD τ).loc main_v2_1) = (dxA (hV m c) (wV m c) (dV m c) : Buf (Elt Ideal) ((c.tc : Thread nD τ).loc main_v2_1))
      ∧ r.2.mem ((c.tc : Thread nD τ).loc main_v2_2) = (dwA (hV m c) (xV m c) (dV m c) : Buf (Elt Ideal) ((c.tc : Thread nD τ).loc main_v2_2))
      ∧ r.2.mem ((c.tc : Thread nD τ).loc main_v2_3) = (xcA (hV m c) (xV m c) : Buf (Elt Ideal) ((c.tc : Thread nD τ).loc main_v2_3))
      ∧ r.2.mem ((c.tc : Thread nD τ).loc main_v2_6) = (fun _ => xsV (F := Ideal) (hV m c) : Buf (Elt Ideal) ((c.tc : Thread nD τ).loc main_v2_6))
      ∧ r.2.mem ((c.tc : Thread nD τ).loc main_v2_4) = (wcA (hV m c) (wV m c) : Buf (Elt Ideal) ((c.tc : Thread nD τ).loc main_v2_4))
      ∧ r.2.mem ((c.tc : Thread nD τ).loc main_v2_7) = (fun _ => wsV (F := Ideal) (hV m c) : Buf (Elt Ideal) ((c.tc : Thread nD τ).loc main_v2_7))
      ∧ r.2.mem ((c.tc : Thread nD τ).loc main_v2_5) = (dycA (hV m c) (dV m c) : Buf (Elt Ideal) ((c.tc : Thread nD τ).loc main_v2_5))
      ∧ r.2.mem ((c.tc : Thread nD τ).loc main_v2_8) = (fun _ => dysV (F := Ideal) (hV m c) : Buf (Elt Ideal) ((c.tc : Thread nD τ).loc main_v2_8))
      ∧ r.2.mem ((c.tc : Thread nD τ).loc main_v2_9) = (nhA (hV m c) (xV m c) (wV m c) (dV m c) : Buf (Elt Ideal) ((c.tc : Thread nD τ).loc main_v2_9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨after, hl, ha⟩ := Pipeline.RDat.FramePost.exists_exact h.1 c
    exact ⟨(ha 4).trans (arr_y m c after hl), (ha 5).trans (arr_dx m c after hl), (ha 6).trans (arr_dw m c after hl), (ha 7).trans (arr_xc m c after hl), (ha 10).trans (arr_xs m c after hl), (ha 8).trans (arr_wc m c after hl), (ha 11).trans (arr_ws m c after hl), (ha 9).trans (arr_dyc m c after hl), (ha 12).trans (arr_dys m c after hl), (ha 13).trans (arr_nh m c after hl),
      ((h.1 c).2 main_arg0 (Pipeline.mem_restRefs_of main_arg0 (by decide) (by decide))).trans (V_main_arg0 m c),
      (Pipeline.RDat.FramePost.arr_in (rdat := rdats m) h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in (rdat := rdats m) h.1 c 0 rfl).trans ((A_eq m c 0).trans (V_main_arg3 m c))⟩) (run_main_quiescent m ρ)

end Cert.KernelIdeal.Gen

end
-- ==== Proof.KI.ScaleEq.lean ====
/- The scale at the extended reals: the kernel's search through the bits finds the exponent that the powers of two give. -/
module

public import proofs.«01_k».proof.Proof.KI.Scale
public import Idealize.ShloMosaic.PureOps.Ideal.Laws

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The words with nothing but an exponent field -/

/-- The word with exponent field `f`. -/
def word (f : ℕ) : BitVec 32 := BitVec.ofNat 32 (f * 8388608)

theorem word_add (g b : ℕ) : word g + word b = word (g + b) := by
  unfold word
  rw [← BitVec.ofNat_add, ← Nat.add_mul]

/-- What it reads as. -/
def val (f : ℕ) : EReal := Ideal.ofBits .f32 (word f)

theorem word_parts : ∀ f : Fin 256, ((word f.val).extractLsb' (8 + 23) 1 == 1#1) = false
    ∧ ((word f.val).extractLsb' 23 8).toNat = f.val ∧ ((word f.val).extractLsb' 0 23).toNat = 0 := by
  decide +kernel

theorem val_zero : val 0 = 0 := by simp [val, word, Ideal.ofBits, Ideal.ieee]

theorem val_top : val 255 = ⊤ := by simp [val, word, Ideal.ofBits, Ideal.ieee]

theorem val_mid (f : ℕ) (h0 : 0 < f) (h1 : f < 255) : val f = (((2 : ℝ) ^ ((f : ℤ) - 127) : ℝ) : EReal) := by
  obtain ⟨a, b, c⟩ := word_parts ⟨f, by omega⟩
  dsimp only at a b c
  show Ideal.ieee 8 23 (word f) = _
  unfold Ideal.ieee
  dsimp only
  rw [a, b, c, if_neg (by omega), if_neg (by omega)]
  congr 1
  have e : ((f : ℤ) - (2 ^ (8 - 1) - 1) - ((23 : ℕ) : ℤ)) = ((f : ℤ) - 127) - 23 := by norm_num
  rw [e, zpow_sub₀ (by norm_num : (2 : ℝ) ≠ 0)]
  generalize (2 : ℝ) ^ ((f : ℤ) - 127) = z
  norm_num
  ring

/-- The words' values grow with the field: `val f ≤ r` exactly up to the exponent of `r`. -/
theorem val_le_iff (r : ℝ) (n : ℤ) (h0 : (2 : ℝ) ^ n ≤ r) (h1 : r < (2 : ℝ) ^ (n + 1)) (hn : -126 ≤ n) (hn' : n ≤ 125)
    (f : ℕ) (hf : f < 256) : val f ≤ (r : EReal) ↔ (f : ℤ) ≤ n + 127 := by
  have hr : (0 : ℝ) ≤ r := le_trans (by positivity) h0
  rcases Nat.eq_zero_or_pos f with rfl | hpos
  · rw [val_zero]
    exact ⟨fun _ => by push_cast; omega, fun _ => by exact_mod_cast hr⟩
  · rcases Nat.lt_or_ge f 255 with hlt | hge
    · rw [val_mid f hpos hlt, EReal.coe_le_coe_iff]
      constructor
      · intro h
        have := (zpow_lt_zpow_iff_right₀ (by norm_num : (1 : ℝ) < 2)).mp (lt_of_le_of_lt h h1)
        omega
      · intro h
        exact le_trans ((zpow_le_zpow_iff_right₀ (by norm_num : (1 : ℝ) < 2)).mpr (by omega)) h0
    · obtain rfl : f = 255 := by omega
      rw [val_top]
      exact ⟨fun h => absurd (top_le_iff.mp h) (EReal.coe_ne_top _), fun h => by omega⟩

/-! ## The search -/

/-- The search on fields instead of words. -/
def trial (N b g : ℕ) : ℕ := if g + b ≤ N then g + b else g

/-- The eight trials find every field. -/
theorem trials : ∀ N : Fin 256, trial N 1 (trial N 2 (trial N 4 (trial N 8 (trial N 16 (trial N 32 (trial N 64 (trial N 128 0))))))) = N.val := by
  decide +kernel

theorem trial_lt (N b g k : ℕ) (hg : g + b < k) : trial N b g < k := by
  unfold trial; split_ifs <;> omega

theorem tryBit_of_add (t : Ideal .f32) (b w v : BitVec 32) (h : w + b = v) :
    tryBit t b w = if Ideal.cmp .oge (max t (-t)) (Ideal.ofBits .f32 v) = 1 then v else w := by
  subst h; rfl

theorem tryBit_eq (t : Ideal .f32) (N : ℕ) (h : ∀ f < 256, val f ≤ max t (-t) ↔ f ≤ N) (b g : ℕ) (hb : g + b < 256) :
    tryBit t (word b) (word g) = word (trial N b g) := by
  rw [tryBit_of_add t _ _ _ (word_add g b)]
  unfold trial
  by_cases hc : g + b ≤ N
  · rw [if_pos hc, if_pos]
    have := (h _ hb).mpr hc
    unfold val at this
    simp only [Ideal.cmp, this, decide_true]
    decide
  · rw [if_neg hc, if_neg]
    have := mt (h _ hb).mp hc
    unfold val at this
    simp only [Ideal.cmp, this, decide_false]
    decide

theorem field_word : ∀ N : Fin 256, Scalar.andi (Scalar.shrui (word N.val) 23#32) 255#32 = BitVec.ofNat 32 N.val := by
  decide +kernel

theorem field_words (t : Ideal .f32) : field t = Scalar.andi (Scalar.shrui (tryBit t (word 1) (tryBit t (word 2) (tryBit t (word 4)
    (tryBit t (word 8) (tryBit t (word 16) (tryBit t (word 32) (tryBit t (word 64) (tryBit t (word 128) (word 0))))))))) 23#32) 255#32 := by
  have w0 : word 0 = 0#32 := by decide
  have w1 : word 1 = 8388608#32 := by decide
  have w2 : word 2 = 16777216#32 := by decide
  have w4 : word 4 = 33554432#32 := by decide
  have w8 : word 8 = 67108864#32 := by decide
  have w16 : word 16 = 134217728#32 := by decide
  have w32 : word 32 = 268435456#32 := by decide
  have w64 : word 64 = 536870912#32 := by decide
  have w128 : word 128 = 1073741824#32 := by decide
  rw [w0, w1, w2, w4, w8, w16, w32, w64, w128, field]

theorem field_eq (t : Ideal .f32) (N : ℕ) (hN : N < 256) (h : ∀ f < 256, val f ≤ max t (-t) ↔ f ≤ N) :
    field t = BitVec.ofNat 32 N := by
  have e7 := tryBit_eq t N h 128 0 (by omega)
  have l7 : trial N 128 0 ≤ 128 := by unfold trial; split_ifs <;> omega
  have e6 := tryBit_eq t N h 64 _ (by omega : trial N 128 0 + 64 < 256)
  have l6 : trial N 64 (trial N 128 0) ≤ 192 := by have := trial_lt N 64 (trial N 128 0) 193 (by omega); omega
  have e5 := tryBit_eq t N h 32 _ (by omega : trial N 64 (trial N 128 0) + 32 < 256)
  have l5 := trial_lt N 32 (trial N 64 (trial N 128 0)) 225 (by omega)
  have e4 := tryBit_eq t N h 16 _ (by omega : trial N 32 (trial N 64 (trial N 128 0)) + 16 < 256)
  have l4 := trial_lt N 16 (trial N 32 (trial N 64 (trial N 128 0))) 241 (by omega)
  have e3 := tryBit_eq t N h 8 _ (by omega : trial N 16 (trial N 32 (trial N 64 (trial N 128 0))) + 8 < 256)
  have l3 := trial_lt N 8 (trial N 16 (trial N 32 (trial N 64 (trial N 128 0)))) 249 (by omega)
  have e2 := tryBit_eq t N h 4 _ (by omega : trial N 8 (trial N 16 (trial N 32 (trial N 64 (trial N 128 0)))) + 4 < 256)
  have l2 := trial_lt N 4 (trial N 8 (trial N 16 (trial N 32 (trial N 64 (trial N 128 0))))) 253 (by omega)
  have e1 := tryBit_eq t N h 2 _ (by omega : trial N 4 (trial N 8 (trial N 16 (trial N 32 (trial N 64 (trial N 128 0))))) + 2 < 256)
  have l1 := trial_lt N 2 (trial N 4 (trial N 8 (trial N 16 (trial N 32 (trial N 64 (trial N 128 0)))))) 255 (by omega)
  have e0 := tryBit_eq t N h 1 _ (by omega : trial N 2 (trial N 4 (trial N 8 (trial N 16 (trial N 32 (trial N 64 (trial N 128 0)))))) + 1 < 256)
  have hT := trials ⟨N, hN⟩
  dsimp only at hT
  rw [hT] at e0
  have hF := field_word ⟨N, hN⟩
  dsimp only at hF
  rw [field_words, e7, e6, e5, e4, e3, e2, e1, e0, hF]

/-! ## The scale and its reciprocal -/

/-- The scale of a field inside the range, -/
theorem pow2_word : ∀ N : Fin 256, 1 ≤ N.val → N.val ≤ 252 →
    Scalar.shli (Scalar.addi (exponent (BitVec.ofNat 32 N.val)) 127#32) 23#32 = word (N.val + 1)
    ∧ Scalar.shli (Scalar.addi (Scalar.subi 0#32 (exponent (BitVec.ofNat 32 N.val))) 127#32) 23#32 = word (253 - N.val) := by
  decide +kernel

/-- and of zero. -/
theorem pow2_zero : Scalar.shli (Scalar.addi (exponent 0#32) 127#32) 23#32 = word 127
    ∧ Scalar.shli (Scalar.addi (Scalar.subi 0#32 (exponent 0#32)) 127#32) 23#32 = word 127 := by
  decide +kernel

/-- The reference's exponent of a row whose maximum is `a`: the least of the 256 candidates whose power of two exceeds
    the scaled maximum. -/
def refExp (a i : EReal) : EReal :=
  if a = 0 then 0 else Finset.univ.fold min ⊤ (fun k : Fin 256 =>
    if max (a * i) (-(a * i)) < Ideal.exp2 (((k.val : ℝ) : EReal) - ((126 : ℝ) : EReal)) then ((k.val : ℝ) : EReal) - ((126 : ℝ) : EReal) else ((129 : ℝ) : EReal))

theorem exp2_int (n : ℤ) : Ideal.exp2 (((n : ℝ)) : EReal) = (((2 : ℝ) ^ n : ℝ) : EReal) := by
  show ((Real.rpow 2 (n : ℝ) : ℝ) : EReal) = _
  exact congrArg _ (Real.rpow_intCast 2 n)

/-- The rows whose scale fits the format: an all-zero maximum, or one that is neither tiny nor huge. -/
def InRange (a i : EReal) : Prop :=
  a = 0 ∨ ((((2 : ℝ) ^ (-126 : ℤ) : ℝ) : EReal) ≤ max (a * i) (-(a * i)) ∧ max (a * i) (-(a * i)) < (((2 : ℝ) ^ (126 : ℤ) : ℝ) : EReal))

theorem refExp_eq (a i : EReal) (ha : a ≠ 0) (r : ℝ) (hr : max (a * i) (-(a * i)) = (r : EReal)) (n : ℤ)
    (h0 : (2 : ℝ) ^ n ≤ r) (h1 : r < (2 : ℝ) ^ (n + 1)) (hn : -126 ≤ n) (hn' : n ≤ 125) :
    refExp a i = (((n + 1 : ℤ) : ℝ) : EReal) := by
  have hk : ∀ k : Fin 256, ((k.val : ℝ) : EReal) - ((126 : ℝ) : EReal) = ((((k.val : ℤ) - 126 : ℤ) : ℝ) : EReal) := by
    intro k; rw [← EReal.coe_sub]; push_cast; rfl
  have hcond : ∀ k : Fin 256, ((r : EReal) < Ideal.exp2 ((((k.val : ℤ) - 126 : ℤ) : ℝ) : EReal)) ↔ n + 1 ≤ (k.val : ℤ) - 126 := by
    intro k
    rw [exp2_int, EReal.coe_lt_coe_iff]
    constructor
    · intro h
      have := (zpow_lt_zpow_iff_right₀ (by norm_num : (1 : ℝ) < 2)).mp (lt_of_le_of_lt h0 h)
      omega
    · intro h
      exact lt_of_lt_of_le h1 ((zpow_le_zpow_iff_right₀ (by norm_num : (1 : ℝ) < 2)).mpr h)
  unfold refExp
  rw [if_neg ha, hr]
  simp only [hk, hcond]
  apply le_antisymm
  · rw [Finset.fold_min_le]
    refine Or.inr ⟨⟨(n + 127).toNat, by omega⟩, Finset.mem_univ _, ?_⟩
    have e : (((n + 127).toNat : ℕ) : ℤ) - 126 = n + 1 := by omega
    dsimp only
    rw [e, if_pos le_rfl]
  · rw [Finset.le_fold_min]
    refine ⟨le_top, fun k _ => ?_⟩
    split_ifs with hc
    · exact EReal.coe_le_coe_iff.mpr (by exact_mod_cast hc)
    · rw [EReal.coe_le_coe_iff]
      have : ((n + 1 : ℤ) : ℝ) ≤ ((129 : ℤ) : ℝ) := by exact_mod_cast (by omega : n + 1 ≤ 129)
      simpa using this

/-- The kernel's scale and reciprocal are the powers of two of the reference's exponent. -/
theorem scale_eq (a i : EReal) (h : InRange a i) :
    pow2 (F := Ideal) (exponent (field (F := Ideal) (a * i))) = Ideal.exp2 (refExp a i)
    ∧ pow2 (F := Ideal) (Scalar.subi 0#32 (exponent (field (F := Ideal) (a * i)))) = Ideal.exp2 (0 - refExp a i) := by
  by_cases ha : a = 0
  · subst ha
    have hf : field (F := Ideal) (0 * i) = 0#32 := by
      refine field_eq _ 0 (by omega) fun f hf => ?_
      rw [zero_mul, neg_zero, max_self]
      constructor
      · intro hle
        by_contra hne
        rcases Nat.lt_or_ge f 255 with hlt | hge
        · rw [val_mid f (by omega) hlt] at hle
          have : ((2 : ℝ) ^ ((f : ℤ) - 127)) ≤ 0 := by exact_mod_cast hle
          exact absurd this (not_le.mpr (by positivity))
        · obtain rfl : f = 255 := by omega
          rw [val_top] at hle
          exact absurd (top_le_iff.mp hle) (by simp)
      · intro h0
        obtain rfl : f = 0 := by omega
        rw [val_zero]
    have he : refExp 0 i = (((0 : ℤ) : ℝ) : EReal) := by unfold refExp; rw [if_pos rfl]; simp
    have he' : (0 : EReal) - refExp 0 i = (((0 : ℤ) : ℝ) : EReal) := by rw [he]; simp
    have hv : val 127 = (((2 : ℝ) ^ (0 : ℤ) : ℝ) : EReal) := by rw [val_mid 127 (by omega) (by omega)]; norm_num
    rw [hf]
    refine ⟨?_, ?_⟩
    · rw [he, exp2_int]
      unfold pow2
      rw [pow2_zero.1]; exact hv
    · rw [he', exp2_int]
      unfold pow2
      rw [pow2_zero.2]; exact hv
  · obtain ⟨hlo, hhi⟩ := h.resolve_left ha
    obtain ⟨r, hr⟩ : ∃ r : ℝ, max (a * i) (-(a * i)) = (r : EReal) :=
      ⟨_, (EReal.coe_toReal (ne_of_lt (lt_trans hhi (EReal.coe_lt_top _))) (ne_of_gt (lt_of_lt_of_le (EReal.bot_lt_coe _) hlo))).symm⟩
    rw [hr, EReal.coe_le_coe_iff] at hlo
    rw [hr, EReal.coe_lt_coe_iff] at hhi
    have hr0 : 0 < r := lt_of_lt_of_le (by positivity) hlo
    obtain ⟨n, h0, h1⟩ := exists_mem_Ico_zpow hr0 (by norm_num : (1 : ℝ) < 2)
    have hn : -126 ≤ n := by
      have := (zpow_lt_zpow_iff_right₀ (by norm_num : (1 : ℝ) < 2)).mp (lt_of_le_of_lt hlo h1)
      omega
    have hn' : n ≤ 125 := by
      have := (zpow_lt_zpow_iff_right₀ (by norm_num : (1 : ℝ) < 2)).mp (lt_of_le_of_lt h0 hhi)
      omega
    have hN : ((n + 127).toNat : ℤ) = n + 127 := by omega
    have hf : field (F := Ideal) (a * i) = BitVec.ofNat 32 (n + 127).toNat := by
      refine field_eq _ _ (by omega) fun f hf => ?_
      rw [hr, val_le_iff r n h0 h1 hn hn' f hf]
      omega
    have he := refExp_eq a i ha r hr n h0 h1 hn hn'
    have he' : (0 : EReal) - refExp a i = (((-(n + 1) : ℤ) : ℝ) : EReal) := by
      rw [he, ← EReal.coe_zero, ← EReal.coe_sub, ← Int.cast_zero, ← Int.cast_sub, zero_sub]
    obtain ⟨p, q⟩ := pow2_word ⟨(n + 127).toNat, by omega⟩ (by dsimp only; omega) (by dsimp only; omega)
    dsimp only at p q
    rw [hf]
    refine ⟨?_, ?_⟩
    · rw [he, exp2_int]
      unfold pow2
      rw [p]
      refine Eq.trans (b := val _) rfl ?_
      rw [val_mid _ (by omega) (by omega)]
      congr 2; omega
    · rw [he', exp2_int]
      unfold pow2
      rw [q]
      refine Eq.trans (b := val _) rfl ?_
      rw [val_mid _ (by omega) (by omega)]
      congr 2; omega

end Cert.KernelIdeal.Gen

end
-- ==== Proof.RI.Exponent.lean ====
/- The reference's exponents: of a row of the history the largest, and of it the least power of two above. -/
module

public import proofs.«01_k».proof.Proof.Gen.ReferenceIdeal.Value
public import proofs.«01_k».proof.Proof.KI.ScaleEq
public import proofs.«01_k».proof.Proof.KI.Meaning

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

/-- The largest of row `r` of the history, -/
def rowSup (h : Arr 3 16) (r : Fin 3) : EReal := ⨆ k : Fin 16, h (ValueIdx.ix2 r k)

/-- and the row's exponent, with the reciprocal of the format's largest number. -/
def rowE (h : Arr 3 16) (r : Fin 3) (inv : BitVec 32) : EReal := refExp (rowSup h r) (Ideal.ofBits .f32 inv)

theorem one_idx (a b : S1x1.Idx) : a = b := funext fun i => Fin.ext (by
  have h : ∀ i : Fin 2, S1x1.size i = 1 := by decide
  have := (a i).isLt; have := (b i).isLt; have := h i; omega)

/-- One number, spread. -/
theorem spread_apply {α : Type} {t : Shape} (v : S1x1.Idx → α) (h : S1x1.Broadcasts t) (j : t.Idx) (y : S1x1.Idx) :
    broadcastTo t v h j = v y := by
  unfold broadcastTo
  exact congrArg v (one_idx _ _)

theorem rowSup_le (h : Arr 3 16) (r : Fin 3) (b : EReal) : rowSup h r ≤ b ↔ ∀ k, h (ValueIdx.ix2 r k) ≤ b := iSup_le_iff

theorem slice_all (h : Vec Ideal S3x16 .f32) (r : Fin 3) (off : Fin S3x16.rank → ℕ) (h0 : off 0 = r.val) (h1 : off 1 = 0)
    (sl : S3x16.Slices off S1x16) (b : EReal) :
    AllLe (extractStridedSlice S1x16 off h sl) b ↔ ∀ k, h (ValueIdx.ix2 r k) ≤ b := by
  have e : ∀ i, extractStridedSlice S1x16 off h sl i = h (ValueIdx.ix2 r (i 1)) := fun i =>
    extractStridedSlice_apply off h sl i _ fun a => by
      have := (i 0).isLt
      have hs : S1x16.size 0 = 1 := rfl
      match a with
      | ⟨0, _⟩ => show r.val = off 0 + (i 0).val; omega
      | ⟨1, _⟩ => show (i 1).val = off 1 + (i 1).val; omega
  constructor
  · intro H k
    have := H (ValueIdx.ix2 0 k)
    rwa [e] at this
  · intro H i
    rw [e]; exact H _

theorem row_apply (h : Vec Ideal S3x16 .f32) (r : Fin 3) (off : Fin S3x16.rank → ℕ) (h0 : off 0 = r.val) (h1 : off 1 = 0)
    (sl : S3x16.Slices off S1x16) (y : S1x1.Idx) :
    shapeCast S1x1 (multiReduction (F := Ideal) .maximumf [1] S1 (extractStridedSlice S1x16 off h sl) 0xFF800000#32 reduces_S1x16_S1 (.inl rfl) rfl) shapeCasts_S1_S1x1 y
      = rowSup h r := by
  refine eq_of_forall_ge_iff fun b => ?_
  rw [shapeCast, rowSup_le]
  exact (reduce_total _ _ reduces_S1x16_S1 (.inl rfl) rfl lowest_f32 (by decide) _ b).trans (slice_all h r off h0 h1 sl b)

theorem select_of (P : Prop) [Decidable P] (a b : EReal) :
    Scalar.select (BitVec.ofBool (decide P)) a b = if P then a else b := by
  by_cases h : P
  · rw [decide_eq_true h, if_pos h]; rfl
  · rw [decide_eq_false h, if_neg h]; rfl

theorem c126 : Ideal.ofBits .f32 0x42FC0000#32 = ((126 : ℝ) : EReal) := by
  simp [Ideal.ofBits, Ideal.ieee]
  norm_num
  rw [← EReal.coe_mul]
  norm_num
theorem c129 : Ideal.ofBits .f32 0x43010000#32 = ((129 : ℝ) : EReal) := by
  simp [Ideal.ofBits, Ideal.ieee]
  norm_num
  rw [← EReal.coe_mul]
  norm_num

/-- The candidates: −126, −125, … -/
theorem candidate_apply (i : S1x256.Idx) : k0_pay6 (F := Ideal) i = (((i 1).val : ℝ) : EReal) - ((126 : ℝ) : EReal) := by
  unfold k0_pay6
  have e : (iota .tc S1x256 32 [1] iota_S1x256_d1_w32 : IVec S1x256 32) i = BitVec.ofNat 32 (i 1).val := iota_single_apply ..
  have hi : (i 1).val < 256 := (i 1).isLt
  show (((iota .tc S1x256 32 [1] iota_S1x256_d1_w32 : IVec S1x256 32) i).toInt : ℝ) - Ideal.ofBits .f32 0x42FC0000#32 = _
  rw [e, c126, BitVec.toInt_eq_toNat_of_lt (by rw [BitVec.toNat_ofNat]; omega), BitVec.toNat_ofNat, Nat.mod_eq_of_lt (by omega)]
  rfl

/-- The least of them whose power is above, as the reference takes it. -/
def least (a inv : EReal) : EReal :=
  Finset.univ.fold min ⊤ (fun k : Fin 256 => if max (a * inv) (-(a * inv)) < Ideal.exp2 (((k.val : ℝ) : EReal) - ((126 : ℝ) : EReal))
    then ((k.val : ℝ) : EReal) - ((126 : ℝ) : EReal) else ((129 : ℝ) : EReal))

theorem reduce_ge_of {s t : Shape} {axes : List (Fin s.rank)} {φ : FTy} (src : FVec Ideal s φ) (acc : BitVec φ.bits) (h : s.Reduces axes t)
    (hφ : FKind.Formats φ) (hacc : acc = FKind.minimumf.neutral φ hφ) (hb : Ideal.ofBits φ acc = ⊤) (ht : ∀ a, t.size a = 1) (j : t.Idx) (b : EReal) :
    b ≤ multiReduction .minimumf axes t src acc h hφ hacc j ↔ ∀ i, b ≤ src i := by
  rw [multiReduction_minimumf_eq_fold]
  refine (Finset.le_fold_min (f := src) (b := FloatOps.ofBits φ acc) b).trans ?_
  constructor
  · intro H i
    refine H.2 i (Finset.mem_filter.mpr ⟨Finset.mem_univ _, funext fun a => Fin.ext ?_⟩)
    have := (h.drop i a).isLt; have := (j a).isLt; have := ht a; omega
  · intro H
    refine ⟨?_, fun i hi => H i⟩
    show b ≤ Ideal.ofBits φ acc
    rw [hb]; exact le_top

theorem reduce_ge (src : FVec Ideal S1x256 .f32) (j : S1.Idx) (b : EReal) :
    b ≤ multiReduction (F := Ideal) .minimumf [1] S1 src 0x7F800000#32 reduces_S1x256_S1 (.inl rfl) rfl j ↔ ∀ i, b ≤ src i :=
  reduce_ge_of src 0x7F800000#32 reduces_S1x256_S1 (.inl rfl) rfl highest_f32 (by decide) j b

/-- The exponent of the largest `a` of a row. -/
theorem exponent_apply (a : FVec Ideal S1x1 .f32) (inv : BitVec 32) (y : S1x1.Idx) :
    k0_pay9 (F := Ideal) a k0_pay6 (cmpf .ogt (exp2 k0_pay6) (broadcastTo S1x256 (absf (mulf a (broadcast S1x1 (Scalar.ofBits .f32 inv)))) broadcasts_S1x1_S1x256))
      k0_pay8 y = refExp (a y) (Ideal.ofBits .f32 inv) := by
  unfold k0_pay9
  refine (select_of (a y = Ideal.ofBits .f32 0x00000000#32) _ _).trans ?_
  show (if a y = Ideal.ofBits .f32 0x00000000#32 then Ideal.ofBits .f32 0x00000000#32 else _) = if a y = 0 then 0 else least (a y) (Ideal.ofBits .f32 inv)
  rw [Ideal.ofBits_zero_f32]
  by_cases h : a y = 0
  · rw [if_pos h, if_pos h]
  rw [if_neg h, if_neg h]
  refine eq_of_forall_le_iff fun b => ?_
  rw [shapeCast, reduce_ge]
  unfold least
  rw [Finset.le_fold_min]
  have e : ∀ i : S1x256.Idx, (select (cmpf .ogt (exp2 k0_pay6) (broadcastTo S1x256 (absf (mulf a (broadcast S1x1 (Scalar.ofBits .f32 inv)))) broadcasts_S1x1_S1x256))
      (k0_pay6 (F := Ideal)) k0_pay8 : FVec Ideal S1x256 .f32) i
      = if max (a y * Ideal.ofBits .f32 inv) (-(a y * Ideal.ofBits .f32 inv)) < Ideal.exp2 ((((i 1).val : ℝ) : EReal) - ((126 : ℝ) : EReal))
        then (((i 1).val : ℝ) : EReal) - ((126 : ℝ) : EReal) else ((129 : ℝ) : EReal) := fun i => by
    refine (select_of (broadcastTo S1x256 (absf (mulf a (broadcast S1x1 (Scalar.ofBits .f32 inv)))) broadcasts_S1x1_S1x256 i < Ideal.exp2 (k0_pay6 (F := Ideal) i)) _ _).trans ?_
    rw [spread_apply _ _ i y, candidate_apply]
    exact if_congr Iff.rfl rfl c129
  constructor
  · intro H
    refine ⟨le_top, fun k _ => ?_⟩
    have := H (ValueIdx.ix2 0 k)
    rw [e] at this
    exact this
  · rintro ⟨_, H⟩ i
    rw [e]
    exact H (i 1) (Finset.mem_univ _)

theorem e0_apply (h : Vec Ideal S3x16 .f32) (y : S1x1.Idx) : k0_pay4 (F := Ideal) h y = rowE h 0 0x3B124925#32 := by
  refine (exponent_apply _ 0x3B124925#32 y).trans ?_
  rw [row_apply h 0 ![0, 0] rfl rfl slices_S3x16_o0_0_S1x16 y]
  rfl

theorem e1_apply (h : Vec Ideal S3x16 .f32) (y : S1x1.Idx) :
    k0_pay9 (F := Ideal) (k0_pay5 h) k0_pay6 (k0_pay7 h) k0_pay8 y = rowE h 1 0x3B124925#32 := by
  refine (exponent_apply (k0_pay5 h) 0x3B124925#32 y).trans ?_
  unfold k0_pay5
  rw [row_apply h 1 ![1, 0] rfl rfl slices_S3x16_o1_0_S1x16 y]
  rfl

theorem e2_apply (h : Vec Ideal S3x16 .f32) (y : S1x1.Idx) : k0_pay10 (F := Ideal) h y = rowE h 2 0x37924925#32 := by
  refine (exponent_apply _ 0x37924925#32 y).trans ?_
  rw [row_apply h 2 ![2, 0] rfl rfl slices_S3x16_o2_0_S1x16 y]
  rfl

end Cert.ReferenceIdeal.Gen

end
-- ==== Proof.RI.Payloads.lean ====
/- What the reference computes, element by element. -/
module

public import proofs.«01_k».proof.Proof.RI.Exponent
public import Idealize.ShloMosaic.Lib.Pipeline.ValueKit

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

theorem minus_apply (e : FVec Ideal S1x1 .f32) (y : S1x1.Idx) :
    (exp2 (subf (broadcast S1x1 (Scalar.ofBits (F := Ideal) .f32 0x00000000#32)) e) : FVec Ideal S1x1 .f32) y = Ideal.exp2 (0 - e y) := by
  show Ideal.exp2 (Ideal.ofBits .f32 0x00000000#32 - e y) = _
  rw [Ideal.ofBits_zero_f32]

theorem xc_apply (x : FVec Ideal S6144x4096 .bf16) (e : FVec Ideal S1x1 .f32) (i : S6144x4096.Idx) (y : S1x1.Idx) :
    k0_pay11 (F := Ideal) x e i = code43 (Ideal.exp2 (0 - e y)) (x i) := by
  unfold k0_pay11
  refine congrArg (fun v => code43 v (x i)) ((spread_apply _ broadcasts_S1x1_S6144x4096 i y).trans (minus_apply e y))

theorem dyc_apply (x : FVec Ideal S6144x1024 .bf16) (e : FVec Ideal S1x1 .f32) (i : S6144x1024.Idx) (y : S1x1.Idx) :
    k0_pay14 (F := Ideal) x e i = code52 (Ideal.exp2 (0 - e y)) (x i) := by
  unfold k0_pay14
  refine congrArg (fun v => code52 v (x i)) ((spread_apply _ broadcasts_S1x1_S6144x1024 i y).trans (minus_apply e y))

theorem wc_apply (w : Vec Ideal S4096x1024 .bf16) (v29 : FVec Ideal S1x1 .f32) (v36 : FVec Ideal S1x256 .f32) (v39 : IVec S1x256 1)
    (v40 : FVec Ideal S1x256 .f32) (i : S4096x1024.Idx) (y : S1x1.Idx) :
    k0_pay13 (F := Ideal) (k0_pay12 w v29 v36 v39 v40) (Scalar.ofBits .f32 0xC3E00000#32) i
      = code43 (Ideal.exp2 (0 - k0_pay9 v29 v36 v39 v40 y)) (w i) := by
  unfold k0_pay13 k0_pay12
  refine congrArg (fun v => code43 v (w i)) ((spread_apply _ broadcasts_S1x1_S4096x1024 i y).trans (minus_apply _ y))

theorem y_apply (e0 e1 : FVec Ideal S1x1 .f32) (xc : FVec Ideal S6144x4096 .fp8e4m3) (v85 : FVec Ideal S4096x1024 .f32) (lo : Ideal .f32)
    (j : S6144x1024.Idx) (y : S1x1.Idx) :
    k0_pay18 (F := Ideal) e0 e1 xc v85 lo j = mulAB xc (k0_pay13 v85 lo) j * (Ideal.exp2 (e0 y) * Ideal.exp2 (e1 y)) := by
  unfold k0_pay18
  refine congrArg₂ (HMul.hMul : EReal → EReal → EReal) ?_ (spread_apply _ broadcasts_S1x1_S6144x1024 j y)
  refine (Ideal.matmul_apply₁_of dot_S6144x4096_S4096x1024_S6144x1024_1_0_0_1_n_n rfl rfl xc (k0_pay13 v85 lo) _ j
    (fun q => ValueIdx.ix2 (j 0) q) (fun q => ValueIdx.ix2 q (j 1))
    (fun q => funext fun a => by fin_cases a <;> rfl) (fun q => funext fun a => by fin_cases a <;> rfl)).trans ?_
  rw [show (constant S6144x1024 .f32 0x00000000#32 : FVec Ideal S6144x1024 .f32) j = 0 from Ideal.ofBits_zero_f32, zero_add]
  rfl

theorem dx_apply (d : FVec Ideal S6144x1024 .bf16) (e1 e2 : FVec Ideal S1x1 .f32) (v85 : FVec Ideal S4096x1024 .f32) (lo : Ideal .f32)
    (j : S6144x4096.Idx) (y : S1x1.Idx) :
    k0_pay19 (F := Ideal) d e1 e2 v85 lo j = mulABt (k0_pay14 d e2) (k0_pay13 v85 lo) j * (Ideal.exp2 (e2 y) * Ideal.exp2 (e1 y)) := by
  unfold k0_pay19
  refine congrArg₂ (HMul.hMul : EReal → EReal → EReal) ?_ (spread_apply _ broadcasts_S1x1_S6144x4096 j y)
  refine (Ideal.matmul_apply₁_of dot_S6144x1024_S4096x1024_S6144x4096_1_1_0_0_n_n rfl rfl (k0_pay14 d e2) (k0_pay13 v85 lo) _ j
    (fun q => ValueIdx.ix2 (j 0) q) (fun q => ValueIdx.ix2 (j 1) q)
    (fun q => funext fun a => by fin_cases a <;> rfl) (fun q => funext fun a => by fin_cases a <;> rfl)).trans ?_
  rw [show (constant S6144x4096 .f32 0x00000000#32 : FVec Ideal S6144x4096 .f32) j = 0 from Ideal.ofBits_zero_f32, zero_add]
  rfl

theorem dw_apply (d : FVec Ideal S6144x1024 .bf16) (e0 e2 : FVec Ideal S1x1 .f32) (xc : FVec Ideal S6144x4096 .fp8e4m3)
    (j : S4096x1024.Idx) (y : S1x1.Idx) :
    k0_pay20 (F := Ideal) d e0 e2 xc j = mulAtB xc (k0_pay14 d e2) j * (Ideal.exp2 (e0 y) * Ideal.exp2 (e2 y)) := by
  unfold k0_pay20
  refine congrArg₂ (HMul.hMul : EReal → EReal → EReal) ?_ (spread_apply _ broadcasts_S1x1_S4096x1024 j y)
  refine (Ideal.matmul_apply₁_of dot_S6144x4096_S6144x1024_S4096x1024_0_0_1_1_n_n rfl rfl xc (k0_pay14 d e2) _ j
    (fun q => ValueIdx.ix2 q (j 0)) (fun q => ValueIdx.ix2 q (j 1))
    (fun q => funext fun a => by fin_cases a <;> rfl) (fun q => funext fun a => by fin_cases a <;> rfl)).trans ?_
  rw [show (constant S4096x1024 .f32 0x00000000#32 : FVec Ideal S4096x1024 .f32) j = 0 from Ideal.ofBits_zero_f32, zero_add]
  rfl

end Cert.ReferenceIdeal.Gen

end
-- ==== Proof.RI.Table.lean ====
/- The reference's new history: the three largest magnitudes in front of the history without its oldest column. -/
module

public import proofs.«01_k».proof.Proof.RI.Payloads

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

open Cert.KernelIdeal.Gen (nhA)

/-- A largest magnitude, taken along one axis and then along what is left. -/
theorem absmax_apply {s a b : Shape} {l₁ : List (Fin s.rank)} {l₂ : List (Fin b.rank)} (x : FVec Ideal s .bf16) (hb : FTy.bits .bf16 < FTy.bits .f32)
    (h₁ : s.Reduces l₁ a) (hc : a.ShapeCasts b) (h₂ : b.Reduces l₂ S1) (y : S1x1.Idx) :
    shapeCast S1x1 (multiReduction (F := Ideal) .maximumf l₂ S1 (shapeCast b (multiReduction (F := Ideal) .maximumf l₁ a (absf (extf .f32 x hb)) 0xFF800000#32
      h₁ (.inl rfl) rfl) hc) 0xFF800000#32 h₂ (.inl rfl) rfl) shapeCasts_S1_S1x1 y = absmax x := by
  refine eq_of_forall_ge_iff fun b => ?_
  rw [shapeCast, absmax_le]
  refine (reduce_total _ _ h₂ (.inl rfl) rfl lowest_f32 (by decide) _ b).trans ?_
  refine (shapeCast_all _ hc b).trans ?_
  exact reduce_all (absf (extf .f32 x hb)) _ h₁ (.inl rfl) rfl lowest_f32 b

/-- Three numbers, one under another. -/
theorem pile_apply (a b c : FVec Ideal S1x1 .f32) (h : Shape.Concatenates [S1x1, S1x1, S1x1] S3x1 0) :
    concatenate S3x1 0 [⟨S1x1, a⟩, ⟨S1x1, b⟩, ⟨S1x1, c⟩] h (ValueIdx.ix2 0 0) = a (ValueIdx.ix2 0 0)
    ∧ concatenate S3x1 0 [⟨S1x1, a⟩, ⟨S1x1, b⟩, ⟨S1x1, c⟩] h (ValueIdx.ix2 1 0) = b (ValueIdx.ix2 0 0)
    ∧ concatenate S3x1 0 [⟨S1x1, a⟩, ⟨S1x1, b⟩, ⟨S1x1, c⟩] h (ValueIdx.ix2 2 0) = c (ValueIdx.ix2 0 0) := by
  refine ⟨?_, ?_, ?_⟩
  · exact concatenate_apply_piece 0 [⟨S1x1, a⟩, ⟨S1x1, b⟩, ⟨S1x1, c⟩] h _ 0 (by simp) S1x1 a rfl rfl 0 rfl (ValueIdx.ix2 0 0)
      (fun a ha => by fin_cases a; · exact absurd rfl ha
                      · rfl) rfl
  · exact concatenate_apply_piece 0 [⟨S1x1, a⟩, ⟨S1x1, b⟩, ⟨S1x1, c⟩] h _ 1 (by simp) S1x1 b rfl rfl 1 rfl (ValueIdx.ix2 0 0)
      (fun a ha => by fin_cases a; · exact absurd rfl ha
                      · rfl) rfl
  · exact concatenate_apply_piece 0 [⟨S1x1, a⟩, ⟨S1x1, b⟩, ⟨S1x1, c⟩] h _ 2 (by simp) S1x1 c rfl rfl 2 rfl (ValueIdx.ix2 0 0)
      (fun a ha => by fin_cases a; · exact absurd rfl ha
                      · rfl) rfl

theorem table_apply (h : Vec Ideal S3x16 .f32) (x : FVec Ideal S6144x4096 .bf16) (w : Vec Ideal S4096x1024 .bf16) (d : FVec Ideal S6144x1024 .bf16)
    (r : Fin 3) (k : Fin 16) : k0_pay1 (F := Ideal) h x w d (ValueIdx.ix2 r k) = nhA h x w d (ValueIdx.ix2 r k) := by
  unfold k0_pay1
  dsimp only
  by_cases hk : k.val = 0
  · refine (concatenate_pair_apply_left 1 _ _ concatenates_S3x1_S3x15_S3x16_d1 (ValueIdx.ix2 r k) rfl (ValueIdx.ix2 r 0)
      (fun a => by fin_cases a; · rfl
                   · exact hk.symm)).trans ?_
    unfold nhA
    rw [if_pos (show ((ValueIdx.ix2 r k : S3x16.Idx) 1).val = 0 from hk)]
    fin_cases r
    · refine (pile_apply _ _ _ concatenates_S1x1_S1x1_S1x1_S3x1_d0).1.trans ?_
      exact absmax_apply (s := S6144x4096) (a := S4096) (b := S1x4096) x _ _ _ _ _
    · refine (pile_apply _ _ _ concatenates_S1x1_S1x1_S1x1_S3x1_d0).2.1.trans ?_
      exact absmax_apply (s := S4096x1024) (a := S1024) (b := S1x1024) w _ _ _ _ _
    · refine (pile_apply _ _ _ concatenates_S1x1_S1x1_S1x1_S3x1_d0).2.2.trans ?_
      exact absmax_apply (s := S6144x1024) (a := S1024) (b := S1x1024) d _ _ _ _ _
  · have hk' : k.val - 1 < 15 := by have := k.isLt; omega
    refine (concatenate_pair_apply_right 1 _ _ concatenates_S3x1_S3x15_S3x16_d1 (ValueIdx.ix2 r k) rfl rfl (ValueIdx.ix2 r ⟨k.val - 1, hk'⟩)
      (fun a ha => by fin_cases a; · rfl
                      · exact absurd rfl ha) (by show k.val - 1 + 1 = k.val; omega)).trans ?_
    unfold nhA
    rw [if_neg (show ¬ ((ValueIdx.ix2 r k : S3x16.Idx) 1).val = 0 from hk)]
    refine extractStridedSlice_apply _ _ _ _ _ fun a => ?_
    fin_cases a
    · show r.val = 0 + r.val; omega
    · show k.val - 1 = 0 + (k.val - 1); omega

end Cert.ReferenceIdeal.Gen

end
-- ==== Proof.RI.Results.lean ====
/- The reference's results as functions of the history and the three operands. -/
module

public import proofs.«01_k».proof.Proof.RI.Table

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

open Cert.KernelIdeal.Gen (nhA)

/-! ## The results, of the history and the three operands -/

abbrev i43 : BitVec 32 := 0x3B124925#32
abbrev i52 : BitVec 32 := 0x37924925#32

/-- The scale of a row of the history, and its reciprocal. -/
def scR (h : Arr 3 16) (r : Fin 3) (inv : BitVec 32) : EReal := Ideal.exp2 (rowE h r inv)
def invR (h : Arr 3 16) (r : Fin 3) (inv : BitVec 32) : EReal := Ideal.exp2 (0 - rowE h r inv)

/-- The codes of x, of the weights and of dy, -/
def xcR (h : Arr 3 16) (x : Arr 6144 4096) : Arr 6144 4096 := fun i => code43 (invR h 0 i43) (x i)
def wcR (h : Arr 3 16) (w : Arr 4096 1024) : Arr 4096 1024 := fun i => code43 (invR h 1 i43) (w i)
def dycR (h : Arr 3 16) (d : Arr 6144 1024) : Arr 6144 1024 := fun i => code52 (invR h 2 i52) (d i)

/-- and the three products, scaled. -/
def yR (h : Arr 3 16) (x : Arr 6144 4096) (w : Arr 4096 1024) : Arr 6144 1024 := fun j =>
  mulAB (xcR h x) (wcR h w) j * (scR h 0 i43 * scR h 1 i43)
def dxR (h : Arr 3 16) (w : Arr 4096 1024) (d : Arr 6144 1024) : Arr 6144 4096 := fun j =>
  mulABt (dycR h d) (wcR h w) j * (scR h 2 i52 * scR h 1 i43)
def dwR (h : Arr 3 16) (x : Arr 6144 4096) (d : Arr 6144 1024) : Arr 4096 1024 := fun j =>
  mulAtB (xcR h x) (dycR h d) j * (scR h 0 i43 * scR h 2 i52)

theorem zeros2 : (![0, 0] : Fin 2 → ℕ) = fun _ => 0 := by
  funext a; fin_cases a <;> rfl

section Outs

variable (h : Vec Ideal S3x16 .f32) (w : Vec Ideal S4096x1024 .bf16) (x : Vec Ideal S6144x4096 .bf16) (d : Vec Ideal S6144x1024 .bf16)

/-! ## The body's intermediate values -/

theorem e0_eq : k0_pay4 (F := Ideal) h = fun _ => rowE h 0 i43 := funext (e0_apply h)
theorem e1_eq : k0_pay9 (F := Ideal) (k0_pay5 h) k0_pay6 (k0_pay7 h) k0_pay8 = fun _ => rowE h 1 i43 := funext (e1_apply h)
theorem e2_eq : k0_pay10 (F := Ideal) h = fun _ => rowE h 2 i52 := funext (e2_apply h)
theorem xc_eq : k0_pay11 (F := Ideal) x (k0_pay4 h) = xcR h x := funext fun i => by
  rw [xc_apply x _ i (ValueIdx.ix2 0 0), e0_apply]; rfl
theorem dyc_eq : k0_pay14 (F := Ideal) d (k0_pay10 h) = dycR h d := funext fun i => by
  rw [dyc_apply d _ i (ValueIdx.ix2 0 0), e2_apply]; rfl
theorem wc_eq : k0_pay13 (F := Ideal) (k0_pay12 w (k0_pay5 h) k0_pay6 (k0_pay7 h) k0_pay8) (Scalar.ofBits .f32 0xC3E00000#32) = wcR h w := funext fun i => by
  rw [wc_apply w _ _ _ _ i (ValueIdx.ix2 0 0), e1_apply]; rfl
theorem pay2_eq : k0_pay2 (F := Ideal) x = x := by unfold k0_pay2; exact shapeCast_self ..
theorem pay3_eq : k0_pay3 (F := Ideal) d = d := by unfold k0_pay3; exact shapeCast_self ..

theorem ld_h : View.ld (Val := Elt Ideal) h r0_0 = h := View.ld_unit_zero zeros2 _ _
theorem ld_x : View.ld (Val := Elt Ideal) x r0_1 = x := View.ld_unit_zero zeros2 _ _
theorem ld_w : View.ld (Val := Elt Ideal) w r0_2 = w := View.ld_unit_zero zeros2 _ _
theorem ld_d : View.ld (Val := Elt Ideal) d r0_3 = d := View.ld_unit_zero zeros2 _ _
theorem table_eq : k0_pay1 (F := Ideal) h x w d = nhA h x w d := funext fun y =>
  (congrArg (k0_pay1 (F := Ideal) h x w d) (ValueIdx.eq_ix2 (n0 := 3) (n1 := 16) y)).trans
    ((table_apply h x w d (y 0) (y 1)).trans (congrArg (nhA h x w d) (ValueIdx.eq_ix2 (n0 := 3) (n1 := 16) y).symm))

/-! ## What the body leaves in each window -/

theorem out_4 : out0_4 (F := Ideal) h w x d = yR h x w := by
  unfold out0_4 k0_pay31 k0_pay30 k0_pay28 k0_pay27 k0_pay26 k0_pay25 k0_pay24 k0_pay23 k0_pay21
  rw [View.canon_cons_unit_zero zeros2]
  simp only [ld_h, ld_x, ld_w, pay2_eq]
  funext j
  rw [y_apply _ _ _ _ _ j (ValueIdx.ix2 0 0), xc_eq, wc_eq, e0_eq, e1_eq]
  rfl

theorem out_5 : out0_5 (F := Ideal) h w x d = dxR h w d := by
  unfold out0_5 k0_pay31 k0_pay29 k0_pay28 k0_pay27 k0_pay26 k0_pay25 k0_pay24 k0_pay22
  rw [View.canon_cons_unit_zero zeros2]
  simp only [ld_h, ld_w, ld_d, pay3_eq]
  funext j
  rw [dx_apply _ _ _ _ _ j (ValueIdx.ix2 0 0), dyc_eq, wc_eq, e1_eq, e2_eq]
  rfl

theorem out_6 : out0_6 (F := Ideal) h w x d = dwR h x d := by
  unfold out0_6 k0_pay30 k0_pay29 k0_pay23 k0_pay22 k0_pay21
  rw [View.canon_cons_unit_zero zeros2]
  simp only [ld_h, ld_x, ld_d, pay2_eq, pay3_eq]
  funext j
  rw [dw_apply _ _ _ _ j (ValueIdx.ix2 0 0), xc_eq, dyc_eq, e0_eq, e2_eq]
  rfl

theorem out_7 : out0_7 (F := Ideal) h w x d = xcR h x := by
  unfold out0_7 k0_pay30 k0_pay23 k0_pay21
  rw [View.canon_cons_unit_zero zeros2]
  simp only [ld_h, ld_x, pay2_eq]
  exact xc_eq h x

theorem out_8 : out0_8 (F := Ideal) h w x d = fun _ => scR h 0 i43 := by
  unfold out0_8 k0_pay23
  rw [View.canon_cons_unit_zero zeros2]
  simp only [ld_h]
  rw [e0_eq]
  rfl

theorem out_9 : out0_9 (F := Ideal) h w x d = wcR h w := by
  unfold out0_9 k0_pay31 k0_pay27 k0_pay26 k0_pay25 k0_pay24
  rw [View.canon_cons_unit_zero zeros2]
  simp only [ld_h, ld_w]
  exact wc_eq h w

theorem out_10 : out0_10 (F := Ideal) h w x d = fun _ => scR h 1 i43 := by
  unfold out0_10 k0_pay28 k0_pay27 k0_pay26 k0_pay25 k0_pay24
  rw [View.canon_cons_unit_zero zeros2]
  simp only [ld_h]
  rw [e1_eq]
  rfl

theorem out_11 : out0_11 (F := Ideal) h w x d = dycR h d := by
  unfold out0_11 k0_pay29 k0_pay22
  rw [View.canon_cons_unit_zero zeros2]
  simp only [ld_h, ld_d, pay3_eq]
  exact dyc_eq h d

theorem out_12 : out0_12 (F := Ideal) h w x d = fun _ => scR h 2 i52 := by
  unfold out0_12 k0_pay29
  rw [View.canon_cons_unit_zero zeros2]
  simp only [ld_h]
  rw [e2_eq]
  rfl

theorem out_13 : out0_13 (F := Ideal) h w x d = nhA h x w d := by
  unfold out0_13 k0_pay22 k0_pay21
  rw [View.canon_cons_unit_zero zeros2]
  simp only [ld_h, ld_x, ld_w, ld_d, pay2_eq, pay3_eq]
  exact table_eq h w x d

end Outs

end Cert.ReferenceIdeal.Gen

end
-- ==== Proof.RI.Arrays.lean ====
/- What the reference's result arrays hold at the end of its run. -/
module

public import proofs.«01_k».proof.Proof.RI.Results

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

open Cert.KernelIdeal.Gen (nhA)

variable (m : (ℓ : Loc nD τ sig) → Buf (Elt Ideal) ℓ) (ρ : Dev nD → PrngReg)

/-- The history, the weights, x and dy as the region finds them. -/
abbrev hV (c : Dev nD) : Arr 3 16 := V m c main_arg3
abbrev wV (c : Dev nD) : Arr 4096 1024 := V m c main_arg1
abbrev xV (c : Dev nD) : Arr 6144 4096 := V m c main_v0
abbrev dV (c : Dev nD) : Arr 6144 1024 := V m c main_v1

/-! ## The one point's blocks are the whole arrays -/

theorem idx_0 : ∀ t : Fin grid0.N, win0_0.index t = ![0, 0] := by decide +kernel
theorem idx_1 : ∀ t : Fin grid0.N, win0_1.index t = ![0, 0] := by decide +kernel
theorem idx_2 : ∀ t : Fin grid0.N, win0_2.index t = ![0, 0] := by decide +kernel
theorem idx_3 : ∀ t : Fin grid0.N, win0_3.index t = ![0, 0] := by decide +kernel

theorem h_read (c : Dev nD) (t : Fin cfg0.N) : (iblk m c 0 t : Vec Ideal S3x16 .f32) = hV m c := by
  funext y
  blk_ext [iblk, idx_0 t]
theorem w_read (c : Dev nD) (t : Fin cfg0.N) : (iblk m c 1 t : Vec Ideal S4096x1024 .bf16) = wV m c := by
  funext y
  blk_ext [iblk, idx_1 t]
theorem x_read (c : Dev nD) (t : Fin cfg0.N) : (iblk m c 2 t : Vec Ideal S6144x4096 .bf16) = xV m c := by
  funext y
  blk_ext [iblk, idx_2 t]
theorem d_read (c : Dev nD) (t : Fin cfg0.N) : (iblk m c 3 t : Vec Ideal S6144x1024 .bf16) = dV m c := by
  funext y
  blk_ext [iblk, idx_3 t]

/-- The one point. -/
abbrev t0 : Fin cfg0.N := ⟨0, by decide⟩

/-! ## Each result array at the end of the run -/

theorem arr_4 (c : Dev nD) : (dats m 0 c).arrAt 4 cfg0.N = (yR (hV m c) (xV m c) (wV m c)) := by
  refine (dats m 0 c).arrAt_eq_of_after_last 4 t0 (by decide +kernel) _ fun j => ?_
  blk_simp
  rw [after0_4]
  refine (congrFun ((congrArg₂ (fun a b => out0_4 (F := Ideal) a b (iblk m c 2 t0) (iblk m c 3 t0)) (h_read m c t0) (w_read m c t0)).trans
    ((congrArg₂ (fun a b => out0_4 (F := Ideal) (hV m c) (wV m c) a b) (x_read m c t0) (d_read m c t0)).trans (out_4 _ _ _ _))) _).trans ?_
  rfl

theorem arr_5 (c : Dev nD) : (dats m 0 c).arrAt 5 cfg0.N = (dxR (hV m c) (wV m c) (dV m c)) := by
  refine (dats m 0 c).arrAt_eq_of_after_last 5 t0 (by decide +kernel) _ fun j => ?_
  blk_simp
  rw [after0_5]
  refine (congrFun ((congrArg₂ (fun a b => out0_5 (F := Ideal) a b (iblk m c 2 t0) (iblk m c 3 t0)) (h_read m c t0) (w_read m c t0)).trans
    ((congrArg₂ (fun a b => out0_5 (F := Ideal) (hV m c) (wV m c) a b) (x_read m c t0) (d_read m c t0)).trans (out_5 _ _ _ _))) _).trans ?_
  rfl

theorem arr_6 (c : Dev nD) : (dats m 0 c).arrAt 6 cfg0.N = (dwR (hV m c) (xV m c) (dV m c)) := by
  refine (dats m 0 c).arrAt_eq_of_after_last 6 t0 (by decide +kernel) _ fun j => ?_
  blk_simp
  rw [after0_6]
  refine (congrFun ((congrArg₂ (fun a b => out0_6 (F := Ideal) a b (iblk m c 2 t0) (iblk m c 3 t0)) (h_read m c t0) (w_read m c t0)).trans
    ((congrArg₂ (fun a b => out0_6 (F := Ideal) (hV m c) (wV m c) a b) (x_read m c t0) (d_read m c t0)).trans (out_6 _ _ _ _))) _).trans ?_
  rfl

theorem arr_7 (c : Dev nD) : (dats m 0 c).arrAt 7 cfg0.N = (xcR (hV m c) (xV m c)) := by
  refine (dats m 0 c).arrAt_eq_of_after_last 7 t0 (by decide +kernel) _ fun j => ?_
  blk_simp
  rw [after0_7]
  refine (congrFun ((congrArg₂ (fun a b => out0_7 (F := Ideal) a b (iblk m c 2 t0) (iblk m c 3 t0)) (h_read m c t0) (w_read m c t0)).trans
    ((congrArg₂ (fun a b => out0_7 (F := Ideal) (hV m c) (wV m c) a b) (x_read m c t0) (d_read m c t0)).trans (out_7 _ _ _ _))) _).trans ?_
  rfl

theorem arr_8 (c : Dev nD) : (dats m 0 c).arrAt 8 cfg0.N = (fun _ => scR (hV m c) 0 i43) := by
  refine (dats m 0 c).arrAt_eq_of_after_last 8 t0 (by decide +kernel) _ fun j => ?_
  blk_simp
  rw [after0_8]
  refine (congrFun ((congrArg₂ (fun a b => out0_8 (F := Ideal) a b (iblk m c 2 t0) (iblk m c 3 t0)) (h_read m c t0) (w_read m c t0)).trans
    ((congrArg₂ (fun a b => out0_8 (F := Ideal) (hV m c) (wV m c) a b) (x_read m c t0) (d_read m c t0)).trans (out_8 _ _ _ _))) _).trans ?_
  rfl

theorem arr_9 (c : Dev nD) : (dats m 0 c).arrAt 9 cfg0.N = (wcR (hV m c) (wV m c)) := by
  refine (dats m 0 c).arrAt_eq_of_after_last 9 t0 (by decide +kernel) _ fun j => ?_
  blk_simp
  rw [after0_9]
  refine (congrFun ((congrArg₂ (fun a b => out0_9 (F := Ideal) a b (iblk m c 2 t0) (iblk m c 3 t0)) (h_read m c t0) (w_read m c t0)).trans
    ((congrArg₂ (fun a b => out0_9 (F := Ideal) (hV m c) (wV m c) a b) (x_read m c t0) (d_read m c t0)).trans (out_9 _ _ _ _))) _).trans ?_
  rfl

theorem arr_10 (c : Dev nD) : (dats m 0 c).arrAt 10 cfg0.N = (fun _ => scR (hV m c) 1 i43) := by
  refine (dats m 0 c).arrAt_eq_of_after_last 10 t0 (by decide +kernel) _ fun j => ?_
  blk_simp
  rw [after0_10]
  refine (congrFun ((congrArg₂ (fun a b => out0_10 (F := Ideal) a b (iblk m c 2 t0) (iblk m c 3 t0)) (h_read m c t0) (w_read m c t0)).trans
    ((congrArg₂ (fun a b => out0_10 (F := Ideal) (hV m c) (wV m c) a b) (x_read m c t0) (d_read m c t0)).trans (out_10 _ _ _ _))) _).trans ?_
  rfl

theorem arr_11 (c : Dev nD) : (dats m 0 c).arrAt 11 cfg0.N = (dycR (hV m c) (dV m c)) := by
  refine (dats m 0 c).arrAt_eq_of_after_last 11 t0 (by decide +kernel) _ fun j => ?_
  blk_simp
  rw [after0_11]
  refine (congrFun ((congrArg₂ (fun a b => out0_11 (F := Ideal) a b (iblk m c 2 t0) (iblk m c 3 t0)) (h_read m c t0) (w_read m c t0)).trans
    ((congrArg₂ (fun a b => out0_11 (F := Ideal) (hV m c) (wV m c) a b) (x_read m c t0) (d_read m c t0)).trans (out_11 _ _ _ _))) _).trans ?_
  rfl

theorem arr_12 (c : Dev nD) : (dats m 0 c).arrAt 12 cfg0.N = (fun _ => scR (hV m c) 2 i52) := by
  refine (dats m 0 c).arrAt_eq_of_after_last 12 t0 (by decide +kernel) _ fun j => ?_
  blk_simp
  rw [after0_12]
  refine (congrFun ((congrArg₂ (fun a b => out0_12 (F := Ideal) a b (iblk m c 2 t0) (iblk m c 3 t0)) (h_read m c t0) (w_read m c t0)).trans
    ((congrArg₂ (fun a b => out0_12 (F := Ideal) (hV m c) (wV m c) a b) (x_read m c t0) (d_read m c t0)).trans (out_12 _ _ _ _))) _).trans ?_
  rfl

theorem arr_13 (c : Dev nD) : (dats m 0 c).arrAt 13 cfg0.N = (nhA (hV m c) (xV m c) (wV m c) (dV m c)) := by
  refine (dats m 0 c).arrAt_eq_of_after_last 13 t0 (by decide +kernel) _ fun j => ?_
  blk_simp
  rw [after0_13]
  refine (congrFun ((congrArg₂ (fun a b => out0_13 (F := Ideal) a b (iblk m c 2 t0) (iblk m c 3 t0)) (h_read m c t0) (w_read m c t0)).trans
    ((congrArg₂ (fun a b => out0_13 (F := Ideal) (hV m c) (wV m c) a b) (x_read m c t0) (d_read m c t0)).trans (out_13 _ _ _ _))) _).trans ?_
  rfl

/-- The reference ends with these results, its arguments unchanged. -/
theorem run_values : θ_run defs (onTc (τ := τ) (main (F := Ideal))) ⟨m, fun _ => 0, ρ⟩ (fun r => ∀ c : Dev nD,
      r.2.mem ((c : Thread nD τ).loc main_v2_0) = (yR (hV m c) (xV m c) (wV m c))
      ∧ r.2.mem ((c : Thread nD τ).loc main_v2_1) = (dxR (hV m c) (wV m c) (dV m c))
      ∧ r.2.mem ((c : Thread nD τ).loc main_v2_2) = (dwR (hV m c) (xV m c) (dV m c))
      ∧ r.2.mem ((c : Thread nD τ).loc main_v2_3) = (xcR (hV m c) (xV m c))
      ∧ r.2.mem ((c : Thread nD τ).loc main_v2_4) = (fun _ => scR (hV m c) 0 i43)
      ∧ r.2.mem ((c : Thread nD τ).loc main_v2_5) = (wcR (hV m c) (wV m c))
      ∧ r.2.mem ((c : Thread nD τ).loc main_v2_6) = (fun _ => scR (hV m c) 1 i43)
      ∧ r.2.mem ((c : Thread nD τ).loc main_v2_7) = (dycR (hV m c) (dV m c))
      ∧ r.2.mem ((c : Thread nD τ).loc main_v2_8) = (fun _ => scR (hV m c) 2 i52)
      ∧ r.2.mem ((c : Thread nD τ).loc main_v2_9) = (nhA (hV m c) (xV m c) (wV m c) (dV m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    obtain ⟨h4, h5, h6, h7, h8, h9, h10, h11, h12, h13, ha⟩ := h c
    exact ⟨h4.trans (arr_4 m c), h5.trans (arr_5 m c), h6.trans (arr_6 m c), h7.trans (arr_7 m c), h8.trans (arr_8 m c), h9.trans (arr_9 m c), h10.trans (arr_10 m c), h11.trans (arr_11 m c), h12.trans (arr_12 m c), h13.trans (arr_13 m c), ha⟩) (Value.run_blocks m ρ)

end Cert.ReferenceIdeal.Gen

end
-- ==== Proof.RI.Range.lean ====
/- What the precondition says: each scale's argument is zero or within the range of normal numbers. -/
module

public import proofs.«01_k».proof.Proof.RI.Exponent
public import proofs.«01_k».proof.Pre_scales_in_range

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

open Cert.KernelIdeal.Gen (InRange val val_mid word)

theorem preFacts : Cert.Pre_scales_in_range.Facts where
  slices_S3x16_S1x16_0_0 := by decide
  reducesTo_S1x16_S_d0_1 := by decide
  h_S_ := by decide
  slices_S3x16_S1x16_1_0 := by decide
  slices_S3x16_S1x16_2_0 := by decide

abbrev S0 : Shape := ⟨0, ![]⟩

theorem and_bit (a b : BitVec 1) : Scalar.andi a b = 1#1 ↔ a = 1#1 ∧ b = 1#1 := by
  revert a b; decide
theorem or_bit (a b : BitVec 1) : Scalar.ori a b = 1#1 ↔ a = 1#1 ∨ b = 1#1 := by
  revert a b; decide
theorem ofBool_bit (p : Prop) [Decidable p] : BitVec.ofBool (decide p) = 1#1 ↔ p := by
  by_cases h : p <;> simp [h]

/-- A maximum into a single number. -/
theorem hostReduce_total {s t u : Shape} {axes : List (Fin s.rank)} (x : FVec Ideal s .f32) (hr : s.ReducesTo axes t) (hu : 0 < u.numel)
    (ht : ∀ a, t.size a = 1) (j : t.Idx) (b : EReal) :
    Host.reduce (max : EReal → EReal → EReal) x (constant (F := Ideal) u .f32 0xFF800000#32) hr hu j ≤ b ↔ AllLe x b := by
  rw [Host.reduce_eq_fold]
  refine (Finset.fold_max_le (f := x) (b := (Ideal.ofBits .f32 0xFF800000#32 : EReal)) b).trans ?_
  rw [lowest_f32]
  constructor
  · intro H i
    refine H.2 i (Finset.mem_filter.mpr ⟨Finset.mem_univ _, funext fun a => Fin.ext ?_⟩)
    have := (hr.drop i a).isLt; have := (j a).isLt; have := ht a; omega
  · intro H
    exact ⟨bot_le, fun i hi => H i⟩

/-- The largest of a row, as the precondition takes it. -/
theorem reduce_row (h : Vec Ideal S3x16 .f32) (r : Fin 3) (off : Fin S3x16.rank → ℕ) (h0 : off 0 = r.val) (h1 : off 1 = 0)
    (sl : S3x16.Slices off S1x16) (hr : S1x16.ReducesTo [0, 1] S0) (hu : 0 < S0.numel) (j : S0.Idx) :
    Host.reduce (FloatOps.maximumf (F := Ideal) (φ := .f32)) (extractStridedSlice S1x16 off h sl) (constant (F := Ideal) S0 .f32 0xFF800000#32) hr hu j = rowSup h r := by
  refine eq_of_forall_ge_iff fun b => ?_
  rw [rowSup_le]
  exact (hostReduce_total _ hr hu (fun a => a.elim0) j b).trans (slice_all h r off h0 h1 sl b)

theorem low_eq : Ideal.ofBits .f32 0x00800000#32 = (((2 : ℝ) ^ (-126 : ℤ) : ℝ) : EReal) := by
  have := val_mid 1 (by decide) (by decide)
  norm_num [val, word] at this ⊢
  exact this
theorem high_eq : Ideal.ofBits .f32 0x7E800000#32 = (((2 : ℝ) ^ (126 : ℤ) : ℝ) : EReal) := by
  have := val_mid 253 (by decide) (by decide)
  norm_num [val, word] at this ⊢
  exact this

/-- One row's test. -/
theorem bit_range (a i : EReal) :
    (BitVec.ofBool (decide (a = Ideal.ofBits .f32 0x00000000#32)) = 1#1
      ∨ (BitVec.ofBool (decide (Ideal.ofBits .f32 0x00800000#32 ≤ max (a * i) (-(a * i)))) = 1#1
        ∧ BitVec.ofBool (decide (max (a * i) (-(a * i)) < Ideal.ofBits .f32 0x7E800000#32)) = 1#1)) ↔ InRange a i := by
  rw [ofBool_bit, ofBool_bit, ofBool_bit, Ideal.ofBits_zero_f32, low_eq, high_eq]
  rfl

theorem ranges (a0 : FVec Ideal Cert.Pre_scales_in_range.S6x1024x4096 .bf16) (a1 : FVec Ideal Cert.Pre_scales_in_range.S4096x1024 .bf16)
    (a2 : FVec Ideal Cert.Pre_scales_in_range.S6x1024x1024 .bf16) (h : Vec Ideal S3x16 .f32)
    (hp : @Cert.Pre_scales_in_range.fn preFacts Ideal _ a0 a1 a2 h = fun _ => 1#1) :
    InRange (rowSup h 0) (Ideal.ofBits .f32 0x3B124925#32) ∧ InRange (rowSup h 1) (Ideal.ofBits .f32 0x3B124925#32)
      ∧ InRange (rowSup h 2) (Ideal.ofBits .f32 0x37924925#32) := by
  have e := congrFun hp (fun a => a.elim0)
  unfold Cert.Pre_scales_in_range.fn Cert.Pre_scales_in_range.fn_part1 at e
  obtain ⟨e01, e2⟩ := (and_bit _ _).mp e
  obtain ⟨e0, e1⟩ := (and_bit _ _).mp e01
  have r0 := reduce_row h 0 ![0, 0] rfl rfl preFacts.slices_S3x16_S1x16_0_0 preFacts.reducesTo_S1x16_S_d0_1 preFacts.h_S_ (fun a => a.elim0)
  have r1 := reduce_row h 1 ![1, 0] rfl rfl preFacts.slices_S3x16_S1x16_1_0 preFacts.reducesTo_S1x16_S_d0_1 preFacts.h_S_ (fun a => a.elim0)
  have r2 := reduce_row h 2 ![2, 0] rfl rfl preFacts.slices_S3x16_S1x16_2_0 preFacts.reducesTo_S1x16_S_d0_1 preFacts.h_S_ (fun a => a.elim0)
  rw [← r0, ← r1, ← r2]
  refine ⟨(bit_range _ _).mp ?_, (bit_range _ _).mp ?_, (bit_range _ _).mp ?_⟩
  · exact ((or_bit _ _).mp e0).imp id fun q => (and_bit _ _).mp q
  · exact ((or_bit _ _).mp e1).imp id fun q => (and_bit _ _).mp q
  · exact ((or_bit _ _).mp e2).imp id fun q => (and_bit _ _).mp q

end Cert.ReferenceIdeal.Gen

end
-- ==== Proof.RI.Equal.lean ====
/- In range, the kernel's scales are the reference's, and so are all its results. -/
module

public import proofs.«01_k».proof.Proof.RI.Results
public import proofs.«01_k».proof.Proof.RI.Range

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen (Arr code code43 code52 mulAB mulABt mulAtB refExp AllLe mag absmax absmax_le reduce_all reduce_total shapeCast_all lowest_f32 highest_f32)

open Cert.KernelIdeal.Gen (InRange scale_eq rowMax rowMax_le histRow xsV xinvV wsV winvV dysV dyinvV xcA wcA dycA yA dxA dwA nhA)

theorem rowMax_eq (h : Arr 3 16) (r : Fin 3) : (rowMax (F := Ideal) (histRow h r) : EReal) = rowSup h r := by
  refine eq_of_forall_ge_iff fun b => ?_
  rw [rowSup_le]
  exact rowMax_le _ b

theorem scale_row (h : Arr 3 16) (r : Fin 3) (inv : BitVec 32) (hr : InRange (rowSup h r) (Ideal.ofBits .f32 inv)) :
    Cert.KernelIdeal.Gen.rowScale (F := Ideal) inv (histRow h r) = scR h r inv ∧ Cert.KernelIdeal.Gen.rowInv (F := Ideal) inv (histRow h r) = invR h r inv := by
  have e := scale_eq _ _ hr
  rw [← rowMax_eq] at e
  refine ⟨e.1.trans ?_, e.2.trans ?_⟩
  · rw [rowMax_eq]; rfl
  · rw [rowMax_eq]; rfl

/-- The history's scales are in range. -/
def Ranged (h : Arr 3 16) : Prop :=
  InRange (rowSup h 0) (Ideal.ofBits .f32 i43) ∧ InRange (rowSup h 1) (Ideal.ofBits .f32 i43) ∧ InRange (rowSup h 2) (Ideal.ofBits .f32 i52)

section
variable {h : Arr 3 16} (H : Ranged h) (x : Arr 6144 4096) (w : Arr 4096 1024) (d : Arr 6144 1024)

include H

theorem xs_same : xsV (F := Ideal) h = scR h 0 i43 := (scale_row h 0 i43 H.1).1
theorem xi_same : xinvV (F := Ideal) h = invR h 0 i43 := (scale_row h 0 i43 H.1).2
theorem ws_same : wsV (F := Ideal) h = scR h 1 i43 := (scale_row h 1 i43 H.2.1).1
theorem wi_same : winvV (F := Ideal) h = invR h 1 i43 := (scale_row h 1 i43 H.2.1).2
theorem dys_same : dysV (F := Ideal) h = scR h 2 i52 := (scale_row h 2 i52 H.2.2).1
theorem dyi_same : dyinvV (F := Ideal) h = invR h 2 i52 := (scale_row h 2 i52 H.2.2).2

theorem xc_same : xcA h x = xcR h x := by
  unfold xcA xcR; rw [xi_same H]
theorem wc_same : wcA h w = wcR h w := by
  unfold wcA wcR; rw [wi_same H]
theorem dyc_same : dycA h d = dycR h d := by
  unfold dycA dycR; rw [dyi_same H]
theorem y_same : yA h x w = yR h x w := by
  unfold yA yR; rw [xc_same H, wc_same H, xs_same H, ws_same H]
theorem dx_same : dxA h w d = dxR h w d := by
  unfold dxA dxR; rw [dyc_same H, wc_same H, dys_same H, ws_same H]
theorem dw_same : dwA h x d = dwR h x d := by
  unfold dwA dwR; rw [xc_same H, dyc_same H, xs_same H, dys_same H]

end

end Cert.ReferenceIdeal.Gen

end
-- ==== Proof.lean ====
/- The proof of the certificate's claims. -/
module

public import proofs.«01_k».proof.Defs
public import proofs.«01_k».proof.Proof.KI.Same
public import proofs.«01_k».proof.Proof.Gen.ReferenceIdeal.Value
public import proofs.«01_k».proof.Proof.KI.Results
public import proofs.«01_k».proof.Proof.RI.Arrays
public import proofs.«01_k».proof.Proof.RI.Equal

@[expose] public section

namespace Cert.Proof

open Idealize.ShloMosaic Idealize.ShloMosaic.TcCoe Idealize.SL.Sem

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two memories hold the same arguments. -/
def Agree (m : KMem) (m' : RMem) : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- So both regions find the same history, weights, x and dy. -/
theorem same_h (m : KMem) (m' : RMem) (h : Agree m m') (c : Dev Cert.KernelIdeal.nD) : Cert.ReferenceIdeal.Gen.hV m' c = Cert.KernelIdeal.Gen.hV m c :=
  (Cert.ReferenceIdeal.Gen.V_main_arg3 m' c).trans ((h c).2.2.2.trans (Cert.KernelIdeal.Gen.V_main_arg3 m c).symm)

theorem same_w (m : KMem) (m' : RMem) (h : Agree m m') (c : Dev Cert.KernelIdeal.nD) : Cert.ReferenceIdeal.Gen.wV m' c = Cert.KernelIdeal.Gen.wV m c :=
  (Cert.ReferenceIdeal.Gen.V_main_arg1 m' c).trans ((h c).2.1.trans (Cert.KernelIdeal.Gen.V_main_arg1 m c).symm)

theorem same_x (m : KMem) (m' : RMem) (h : Agree m m') (c : Dev Cert.KernelIdeal.nD) : Cert.ReferenceIdeal.Gen.xV m' c = Cert.KernelIdeal.Gen.xV m c :=
  congrArg (fun a => shapeCast Cert.KernelIdeal.S6144x4096 a Cert.KernelIdeal.Gen.facts.shapeCasts_S6x1024x4096_S6144x4096) (h c).1

theorem same_d (m : KMem) (m' : RMem) (h : Agree m m') (c : Dev Cert.KernelIdeal.nD) : Cert.ReferenceIdeal.Gen.dV m' c = Cert.KernelIdeal.Gen.dV m c :=
  congrArg (fun a => shapeCast Cert.KernelIdeal.S6144x1024 a Cert.KernelIdeal.Gen.facts.shapeCasts_S6x1024x1024_S6144x1024) (h c).2.2.1

/-- What the precondition says of the history. -/
theorem ranged (m : KMem) (hp : @Cert.Pre_KernelIdeal_scales_in_range Cert.ReferenceIdeal.Gen.preFacts m) (c : Dev Cert.KernelIdeal.nD) :
    Cert.ReferenceIdeal.Gen.Ranged (Cert.KernelIdeal.Gen.hV m c) := by
  have e : Cert.KernelIdeal.Gen.hV m c = m ((c.tc : Thread Cert.KernelIdeal.nD Cert.KernelIdeal.τ).loc Cert.KernelIdeal.main_arg3) := Cert.KernelIdeal.Gen.V_main_arg3 m c
  rw [e]
  exact Cert.ReferenceIdeal.Gen.ranges _ _ _ _ (hp c)

open Cert.KernelIdeal.Gen in
theorem algebraic : @Cert.algebraic_KernelIdeal_ReferenceIdeal_pre_scales_in_range Cert.KernelIdeal.Gen.facts Cert.ReferenceIdeal.Gen.facts Cert.ReferenceIdeal.Gen.preFacts := by
  intro m g m' g' hp ha
  refine ⟨fun c => yA (hV m c) (xV m c) (wV m c), fun c => dxA (hV m c) (wV m c) (dV m c), fun c => dwA (hV m c) (xV m c) (dV m c),
    fun c => xcA (hV m c) (xV m c), fun c => (fun _ => xsV (F := Ideal) (hV m c)), fun c => wcA (hV m c) (wV m c), fun c => (fun _ => wsV (F := Ideal) (hV m c)),
    fun c => dycA (hV m c) (dV m c), fun c => (fun _ => dysV (F := Ideal) (hV m c)), fun c => nhA (hV m c) (xV m c) (wV m c) (dV m c),
    Cert.KernelIdeal.Gen.run_values m g, ?_⟩
  refine (θ_run Cert.ReferenceIdeal.defs _ _).mono (fun r h c => ?_) (Cert.ReferenceIdeal.Gen.run_values m' g')
  obtain ⟨h0, h1, h2, h3, h4, h5, h6, h7, h8, h9, hargs⟩ := h c
  have H := ranged m hp c
  have eh := same_h m m' ha c
  have ew := same_w m m' ha c
  have ex := same_x m m' ha c
  have ed := same_d m m' ha c
  rw [eh, ex, ew] at h0
  rw [eh, ew, ed] at h1
  rw [eh, ex, ed] at h2
  rw [eh, ex] at h3
  rw [eh] at h4 h6 h8
  rw [eh, ew] at h5
  rw [eh, ed] at h7
  rw [eh, ex, ew, ed] at h9
  exact ⟨h0.trans (Cert.ReferenceIdeal.Gen.y_same H _ _).symm, h1.trans (Cert.ReferenceIdeal.Gen.dx_same H _ _).symm,
    h2.trans (Cert.ReferenceIdeal.Gen.dw_same H _ _).symm, h3.trans (Cert.ReferenceIdeal.Gen.xc_same H _).symm,
    h4.trans (funext fun _ => (Cert.ReferenceIdeal.Gen.xs_same H).symm), h5.trans (Cert.ReferenceIdeal.Gen.wc_same H _).symm,
    h6.trans (funext fun _ => (Cert.ReferenceIdeal.Gen.ws_same H).symm), h7.trans (Cert.ReferenceIdeal.Gen.dyc_same H _).symm,
    h8.trans (funext fun _ => (Cert.ReferenceIdeal.Gen.dys_same H).symm), h9, hargs⟩

theorem claim : Cert.Claim :=
  ⟨Cert.Kernel.Gen.facts, Cert.KernelIdeal.Gen.facts, Cert.ReferenceIdeal.Gen.facts, Cert.ReferenceIdeal.Gen.preFacts,
    Cert.Kernel.Gen.quiescent, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
